-- ==== Defs.lean ====
def Pre_KGu (m : (ℓ : Loc Cert.KGu.nD Cert.KGu.τ Cert.KGu.sig) → Buf (Elt Bits) ℓ) : Prop :=
  True

def Pre_KGuIdeal (m : (ℓ : Loc Cert.KGuIdeal.nD Cert.KGuIdeal.τ Cert.KGuIdeal.sig) → Buf (Elt Ideal) ℓ) : Prop :=
  True

def Pre_RGuIdeal (m : (ℓ : Loc Cert.RGuIdeal.nD Cert.RGuIdeal.τ Cert.RGuIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def quiescent_KGu [hKGu : Cert.KGu.Facts] : Prop :=
  ∀ (m : (ℓ : Loc Cert.KGu.nD Cert.KGu.τ Cert.KGu.sig) → Buf (Elt Bits) ℓ) (g : Dev Cert.KGu.nD → PrngReg), Pre_KGu m →
    θ_run (Cert.KGu.defs (F := Bits)) (onTc (τ := Cert.KGu.τ) (Cert.KGu.main (F := Bits))) ⟨m, fun _ => 0, g⟩ (fun r => (∀ c : Dev Cert.KGu.nD,
      r.2.mem ((c.tc : Thread Cert.KGu.nD Cert.KGu.τ).loc Cert.KGu.main_arg0) = m ((c.tc : Thread Cert.KGu.nD Cert.KGu.τ).loc Cert.KGu.main_arg0)
      ∧ r.2.mem ((c.tc : Thread Cert.KGu.nD Cert.KGu.τ).loc Cert.KGu.main_arg1) = m ((c.tc : Thread Cert.KGu.nD Cert.KGu.τ).loc Cert.KGu.main_arg1)
      ∧ r.2.mem ((c.tc : Thread Cert.KGu.nD Cert.KGu.τ).loc Cert.KGu.main_arg2) = m ((c.tc : Thread Cert.KGu.nD Cert.KGu.τ).loc Cert.KGu.main_arg2)
      ∧ r.2.mem ((c.tc : Thread Cert.KGu.nD Cert.KGu.τ).loc Cert.KGu.main_arg3) = m ((c.tc : Thread Cert.KGu.nD Cert.KGu.τ).loc Cert.KGu.main_arg3))
      ∧ r.2.sem = fun _ => 0)

def quiescent_KGuIdeal [hKGuIdeal : Cert.KGuIdeal.Facts] : Prop :=
  ∀ (m : (ℓ : Loc Cert.KGuIdeal.nD Cert.KGuIdeal.τ Cert.KGuIdeal.sig) → Buf (Elt Ideal) ℓ) (g : Dev Cert.KGuIdeal.nD → PrngReg), Pre_KGuIdeal m →
    θ_run (Cert.KGuIdeal.defs (F := Ideal)) (onTc (τ := Cert.KGuIdeal.τ) (Cert.KGuIdeal.main (F := Ideal))) ⟨m, fun _ => 0, g⟩ (fun r => (∀ c : Dev Cert.KGuIdeal.nD,
      r.2.mem ((c.tc : Thread Cert.KGuIdeal.nD Cert.KGuIdeal.τ).loc Cert.KGuIdeal.main_arg0) = m ((c.tc : Thread Cert.KGuIdeal.nD Cert.KGuIdeal.τ).loc Cert.KGuIdeal.main_arg0)
      ∧ r.2.mem ((c.tc : Thread Cert.KGuIdeal.nD Cert.KGuIdeal.τ).loc Cert.KGuIdeal.main_arg1) = m ((c.tc : Thread Cert.KGuIdeal.nD Cert.KGuIdeal.τ).loc Cert.KGuIdeal.main_arg1)
      ∧ r.2.mem ((c.tc : Thread Cert.KGuIdeal.nD Cert.KGuIdeal.τ).loc Cert.KGuIdeal.main_arg2) = m ((c.tc : Thread Cert.KGuIdeal.nD Cert.KGuIdeal.τ).loc Cert.KGuIdeal.main_arg2)
      ∧ r.2.mem ((c.tc : Thread Cert.KGuIdeal.nD Cert.KGuIdeal.τ).loc Cert.KGuIdeal.main_arg3) = m ((c.tc : Thread Cert.KGuIdeal.nD Cert.KGuIdeal.τ).loc Cert.KGuIdeal.main_arg3))
      ∧ r.2.sem = fun _ => 0)

def quiescent_RGuIdeal [hRGuIdeal : Cert.RGuIdeal.Facts] : Prop :=
  ∀ (m : (ℓ : Loc Cert.RGuIdeal.nD Cert.RGuIdeal.τ Cert.RGuIdeal.sig) → Buf (Elt Ideal) ℓ) (g : Dev Cert.RGuIdeal.nD → PrngReg), Pre_RGuIdeal m →
    θ_run (Cert.RGuIdeal.defs (F := Ideal)) (onTc (τ := Cert.RGuIdeal.τ) (Cert.RGuIdeal.main (F := Ideal))) ⟨m, fun _ => 0, g⟩ (fun r => (∀ c : Dev Cert.RGuIdeal.nD,
      r.2.mem ((c.tc : Thread Cert.RGuIdeal.nD Cert.RGuIdeal.τ).loc Cert.RGuIdeal.main_arg0) = m ((c.tc : Thread Cert.RGuIdeal.nD Cert.RGuIdeal.τ).loc Cert.RGuIdeal.main_arg0)
      ∧ r.2.mem ((c.tc : Thread Cert.RGuIdeal.nD Cert.RGuIdeal.τ).loc Cert.RGuIdeal.main_arg1) = m ((c.tc : Thread Cert.RGuIdeal.nD Cert.RGuIdeal.τ).loc Cert.RGuIdeal.main_arg1)
      ∧ r.2.mem ((c.tc : Thread Cert.RGuIdeal.nD Cert.RGuIdeal.τ).loc Cert.RGuIdeal.main_arg2) = m ((c.tc : Thread Cert.RGuIdeal.nD Cert.RGuIdeal.τ).loc Cert.RGuIdeal.main_arg2)
      ∧ r.2.mem ((c.tc : Thread Cert.RGuIdeal.nD Cert.RGuIdeal.τ).loc Cert.RGuIdeal.main_arg3) = m ((c.tc : Thread Cert.RGuIdeal.nD Cert.RGuIdeal.τ).loc Cert.RGuIdeal.main_arg3))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3)
      ∧ r.2.mem ((c.tc : Thread Cert.KDown.nD Cert.KDown.τ).loc Cert.KDown.main_arg4) = m ((c.tc : Thread Cert.KDown.nD Cert.KDown.τ).loc Cert.KDown.main_arg4))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3)
      ∧ r.2.mem ((c.tc : Thread Cert.KDownIdeal.nD Cert.KDownIdeal.τ).loc Cert.KDownIdeal.main_arg4) = m ((c.tc : Thread Cert.KDownIdeal.nD Cert.KDownIdeal.τ).loc Cert.KDownIdeal.main_arg4))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3)
      ∧ r.2.mem ((c.tc : Thread Cert.RDownIdeal.nD Cert.RDownIdeal.τ).loc Cert.RDownIdeal.main_arg4) = m ((c.tc : Thread Cert.RDownIdeal.nD Cert.RDownIdeal.τ).loc Cert.RDownIdeal.main_arg4))
      ∧ r.2.sem = fun _ => 0)

def preserves_KGu_KGuIdeal : Prop :=
  True

def algebraic_KGuIdeal_RGuIdeal [hKGuIdeal : Cert.KGuIdeal.Facts] [hRGuIdeal : Cert.RGuIdeal.Facts] : Prop :=
  ∀ (m : (ℓ : Loc Cert.KGuIdeal.nD Cert.KGuIdeal.τ Cert.KGuIdeal.sig) → Buf (Elt Ideal) ℓ) (g : Dev Cert.KGuIdeal.nD → PrngReg)
    (m' : (ℓ : Loc Cert.RGuIdeal.nD Cert.RGuIdeal.τ Cert.RGuIdeal.sig) → Buf (Elt Ideal) ℓ) (g' : Dev Cert.RGuIdeal.nD → PrngReg), Pre_KGuIdeal m →
    (∀ c : Dev Cert.KGuIdeal.nD,
      m' ((c.tc : Thread Cert.RGuIdeal.nD Cert.RGuIdeal.τ).loc Cert.RGuIdeal.main_arg0) = m ((c.tc : Thread Cert.KGuIdeal.nD Cert.KGuIdeal.τ).loc Cert.KGuIdeal.main_arg0)
      ∧ m' ((c.tc : Thread Cert.RGuIdeal.nD Cert.RGuIdeal.τ).loc Cert.RGuIdeal.main_arg1) = m ((c.tc : Thread Cert.KGuIdeal.nD Cert.KGuIdeal.τ).loc Cert.KGuIdeal.main_arg1)
      ∧ m' ((c.tc : Thread Cert.RGuIdeal.nD Cert.RGuIdeal.τ).loc Cert.RGuIdeal.main_arg2) = m ((c.tc : Thread Cert.KGuIdeal.nD Cert.KGuIdeal.τ).loc Cert.KGuIdeal.main_arg2)
      ∧ m' ((c.tc : Thread Cert.RGuIdeal.nD Cert.RGuIdeal.τ).loc Cert.RGuIdeal.main_arg3) = m ((c.tc : Thread Cert.KGuIdeal.nD Cert.KGuIdeal.τ).loc Cert.KGuIdeal.main_arg3)) →
    ∃ (v0 : (c : Dev Cert.KGuIdeal.nD) → Buf (Elt Ideal) ((c.tc : Thread Cert.KGuIdeal.nD Cert.KGuIdeal.τ).loc Cert.KGuIdeal.main_v0_0)) (v1 : (c : Dev Cert.KGuIdeal.nD) → Buf (Elt Ideal) ((c.tc : Thread Cert.KGuIdeal.nD Cert.KGuIdeal.τ).loc Cert.KGuIdeal.main_v0_1)),
      θ_run (Cert.KGuIdeal.defs (F := Ideal)) (onTc (τ := Cert.KGuIdeal.τ) (Cert.KGuIdeal.main (F := Ideal))) ⟨m, fun _ => 0, g⟩ (fun r => ∀ c : Dev Cert.KGuIdeal.nD,
          r.2.mem ((c.tc : Thread Cert.KGuIdeal.nD Cert.KGuIdeal.τ).loc Cert.KGuIdeal.main_v0_0) = v0 c
          ∧ r.2.mem ((c.tc : Thread Cert.KGuIdeal.nD Cert.KGuIdeal.τ).loc Cert.KGuIdeal.main_v0_1) = v1 c
          ∧ r.2.mem ((c.tc : Thread Cert.KGuIdeal.nD Cert.KGuIdeal.τ).loc Cert.KGuIdeal.main_arg0) = m ((c.tc : Thread Cert.KGuIdeal.nD Cert.KGuIdeal.τ).loc Cert.KGuIdeal.main_arg0)
          ∧ r.2.mem ((c.tc : Thread Cert.KGuIdeal.nD Cert.KGuIdeal.τ).loc Cert.KGuIdeal.main_arg1) = m ((c.tc : Thread Cert.KGuIdeal.nD Cert.KGuIdeal.τ).loc Cert.KGuIdeal.main_arg1)
          ∧ r.2.mem ((c.tc : Thread Cert.KGuIdeal.nD Cert.KGuIdeal.τ).loc Cert.KGuIdeal.main_arg2) = m ((c.tc : Thread Cert.KGuIdeal.nD Cert.KGuIdeal.τ).loc Cert.KGuIdeal.main_arg2)
          ∧ r.2.mem ((c.tc : Thread Cert.KGuIdeal.nD Cert.KGuIdeal.τ).loc Cert.KGuIdeal.main_arg3) = m ((c.tc : Thread Cert.KGuIdeal.nD Cert.KGuIdeal.τ).loc Cert.KGuIdeal.main_arg3))
      ∧ θ_run (Cert.RGuIdeal.defs (F := Ideal)) (onTc (τ := Cert.RGuIdeal.τ) (Cert.RGuIdeal.main (F := Ideal))) ⟨m', fun _ => 0, g'⟩ (fun r => ∀ c : Dev Cert.RGuIdeal.nD,
          r.2.mem ((c.tc : Thread Cert.RGuIdeal.nD Cert.RGuIdeal.τ).loc Cert.RGuIdeal.main_v1_0) = v0 c
          ∧ r.2.mem ((c.tc : Thread Cert.RGuIdeal.nD Cert.RGuIdeal.τ).loc Cert.RGuIdeal.main_v1_1) = v1 c
          ∧ r.2.mem ((c.tc : Thread Cert.RGuIdeal.nD Cert.RGuIdeal.τ).loc Cert.RGuIdeal.main_arg0) = m' ((c.tc : Thread Cert.RGuIdeal.nD Cert.RGuIdeal.τ).loc Cert.RGuIdeal.main_arg0)
          ∧ r.2.mem ((c.tc : Thread Cert.RGuIdeal.nD Cert.RGuIdeal.τ).loc Cert.RGuIdeal.main_arg1) = m' ((c.tc : Thread Cert.RGuIdeal.nD Cert.RGuIdeal.τ).loc Cert.RGuIdeal.main_arg1)
          ∧ r.2.mem ((c.tc : Thread Cert.RGuIdeal.nD Cert.RGuIdeal.τ).loc Cert.RGuIdeal.main_arg2) = m' ((c.tc : Thread Cert.RGuIdeal.nD Cert.RGuIdeal.τ).loc Cert.RGuIdeal.main_arg2)
          ∧ r.2.mem ((c.tc : Thread Cert.RGuIdeal.nD Cert.RGuIdeal.τ).loc Cert.RGuIdeal.main_arg3) = m' ((c.tc : Thread Cert.RGuIdeal.nD Cert.RGuIdeal.τ).loc Cert.RGuIdeal.main_arg3))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)
      ∧ m' ((c.tc : Thread Cert.RDownIdeal.nD Cert.RDownIdeal.τ).loc Cert.RDownIdeal.main_arg4) = m ((c.tc : Thread Cert.KDownIdeal.nD Cert.KDownIdeal.τ).loc Cert.KDownIdeal.main_arg4)) →
    ∃ (v0 : (c : Dev Cert.KDownIdeal.nD) → Buf (Elt Ideal) ((c.tc : Thread Cert.KDownIdeal.nD Cert.KDownIdeal.τ).loc Cert.KDownIdeal.main_v0_0)) (v1 : (c : Dev Cert.KDownIdeal.nD) → Buf (Elt Ideal) ((c.tc : Thread Cert.KDownIdeal.nD Cert.KDownIdeal.τ).loc Cert.KDownIdeal.main_v0_1)) (v2 : (c : Dev Cert.KDownIdeal.nD) → Buf (Elt Ideal) ((c.tc : Thread Cert.KDownIdeal.nD Cert.KDownIdeal.τ).loc Cert.KDownIdeal.main_v0_2)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v0_0) = v0 c
          ∧ r.2.mem ((c.tc : Thread Cert.KDownIdeal.nD Cert.KDownIdeal.τ).loc Cert.KDownIdeal.main_v0_1) = v1 c
          ∧ r.2.mem ((c.tc : Thread Cert.KDownIdeal.nD Cert.KDownIdeal.τ).loc Cert.KDownIdeal.main_v0_2) = v2 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3)
          ∧ r.2.mem ((c.tc : Thread Cert.KDownIdeal.nD Cert.KDownIdeal.τ).loc Cert.KDownIdeal.main_arg4) = m ((c.tc : Thread Cert.KDownIdeal.nD Cert.KDownIdeal.τ).loc Cert.KDownIdeal.main_arg4))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v8_0) = v0 c
          ∧ r.2.mem ((c.tc : Thread Cert.RDownIdeal.nD Cert.RDownIdeal.τ).loc Cert.RDownIdeal.main_v8_1) = v1 c
          ∧ r.2.mem ((c.tc : Thread Cert.RDownIdeal.nD Cert.RDownIdeal.τ).loc Cert.RDownIdeal.main_v6) = v2 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3)
          ∧ r.2.mem ((c.tc : Thread Cert.RDownIdeal.nD Cert.RDownIdeal.τ).loc Cert.RDownIdeal.main_arg4) = m' ((c.tc : Thread Cert.RDownIdeal.nD Cert.RDownIdeal.τ).loc Cert.RDownIdeal.main_arg4))

def Claim : Prop :=
  ∃ (hKGu : Cert.KGu.Facts) (hKGuIdeal : Cert.KGuIdeal.Facts) (hRGuIdeal : Cert.RGuIdeal.Facts) (hKDown : Cert.KDown.Facts) (hKDownIdeal : Cert.KDownIdeal.Facts) (hRDownIdeal : Cert.RDownIdeal.Facts),
    quiescent_KGu (hKGu := hKGu)
    ∧ quiescent_KGuIdeal (hKGuIdeal := hKGuIdeal)
    ∧ quiescent_RGuIdeal (hRGuIdeal := hRGuIdeal)
    ∧ quiescent_KDown (hKDown := hKDown)
    ∧ quiescent_KDownIdeal (hKDownIdeal := hKDownIdeal)
    ∧ quiescent_RDownIdeal (hRDownIdeal := hRDownIdeal)
    ∧ preserves_KGu_KGuIdeal
    ∧ algebraic_KGuIdeal_RGuIdeal (hKGuIdeal := hKGuIdeal) (hRGuIdeal := hRGuIdeal)
    ∧ preserves_KDown_KDownIdeal
    ∧ algebraic_KDownIdeal_RDownIdeal (hKDownIdeal := hKDownIdeal) (hRDownIdeal := hRDownIdeal)
-- ==== KGu.lean ====
abbrev S576x4096 : Shape := ⟨2, ![576, 4096]⟩
abbrev S12x48 : Shape := ⟨2, ![12, 48]⟩
abbrev S2x12288 : Shape := ⟨2, ![2, 12288]⟩
abbrev S2x4096x12288 : Shape := ⟨3, ![2, 4096, 12288]⟩
abbrev S576x12288 : Shape := ⟨2, ![576, 12288]⟩
abbrev S576x128 : Shape := ⟨2, ![576, 128]⟩
abbrev S2x512 : Shape := ⟨2, ![2, 512]⟩
abbrev S1x4096x512 : Shape := ⟨3, ![1, 4096, 512]⟩
abbrev S576x512 : Shape := ⟨2, ![576, 512]⟩
abbrev S1x48 : Shape := ⟨2, ![1, 48]⟩
abbrev S1x80 : Shape := ⟨2, ![1, 80]⟩
abbrev S1x128 : Shape := ⟨2, ![1, 128]⟩
abbrev S128x128 : Shape := ⟨2, ![128, 128]⟩
abbrev S48x128 : Shape := ⟨2, ![48, 128]⟩
abbrev S4096x512 : Shape := ⟨2, ![4096, 512]⟩

abbrev nBuf : Space → Nat
  | .hbm => 6
  | .vmem => 12
  | .smem => 0
  | _ => 0

abbrev bufTy : (tb : Table) → Fin (tcTables nBuf tb) → BufTy
  | .hbm, ⟨0, _⟩ => ⟨S576x4096, .bf16⟩
  | .hbm, ⟨1, _⟩ => ⟨S12x48, .f32⟩
  | .hbm, ⟨2, _⟩ => ⟨S2x12288, .f32⟩
  | .hbm, ⟨3, _⟩ => ⟨S2x4096x12288, .i8⟩
  | .hbm, ⟨4, _⟩ => ⟨S576x12288, .f32⟩
  | .hbm, ⟨5, _⟩ => ⟨S576x128, .f32⟩
  | .local _ .vmem, ⟨0, _⟩ => ⟨S576x4096, .bf16⟩
  | .local _ .vmem, ⟨1, _⟩ => ⟨S12x48, .f32⟩
  | .local _ .vmem, ⟨2, _⟩ => ⟨S2x512, .f32⟩
  | .local _ .vmem, ⟨3, _⟩ => ⟨S2x512, .f32⟩
  | .local _ .vmem, ⟨4, _⟩ => ⟨S1x4096x512, .i8⟩
  | .local _ .vmem, ⟨5, _⟩ => ⟨S1x4096x512, .i8⟩
  | .local _ .vmem, ⟨6, _⟩ => ⟨S1x4096x512, .i8⟩
  | .local _ .vmem, ⟨7, _⟩ => ⟨S1x4096x512, .i8⟩
  | .local _ .vmem, ⟨8, _⟩ => ⟨S576x512, .f32⟩
  | .local _ .vmem, ⟨9, _⟩ => ⟨S576x512, .f32⟩
  | .local _ .vmem, ⟨10, _⟩ => ⟨S576x128, .f32⟩
  | .local _ .vmem, ⟨11, _⟩ => ⟨S576x128, .f32⟩
  | _, _ => ⟨S576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S576x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S576x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RGuIdeal.lean ====
abbrev S576x4096 : Shape := ⟨2, ![576, 4096]⟩
abbrev S12x48 : Shape := ⟨2, ![12, 48]⟩
abbrev S2x12288 : Shape := ⟨2, ![2, 12288]⟩
abbrev S2x4096x12288 : Shape := ⟨3, ![2, 4096, 12288]⟩
abbrev S576x1 : Shape := ⟨2, ![576, 1]⟩
abbrev S576x12288 : Shape := ⟨2, ![576, 12288]⟩
abbrev S576x128 : Shape := ⟨2, ![576, 128]⟩
abbrev S1x4096x12288 : Shape := ⟨3, ![1, 4096, 12288]⟩
abbrev S4096x12288 : Shape := ⟨2, ![4096, 12288]⟩
abbrev S1x12288 : Shape := ⟨2, ![1, 12288]⟩
abbrev S576x96x128 : Shape := ⟨3, ![576, 96, 128]⟩

abbrev nBuf : Space → Nat
  | .hbm => 7
  | .vmem => 6
  | .smem => 0
  | _ => 0

abbrev bufTy : (tb : Table) → Fin (tcTables nBuf tb) → BufTy
  | .hbm, ⟨0, _⟩ => ⟨S576x4096, .bf16⟩
  | .hbm, ⟨1, _⟩ => ⟨S12x48, .f32⟩
  | .hbm, ⟨2, _⟩ => ⟨S2x12288, .f32⟩
  | .hbm, ⟨3, _⟩ => ⟨S2x4096x12288, .i8⟩
  | .hbm, ⟨4, _⟩ => ⟨S576x1, .f32⟩
  | .hbm, ⟨5, _⟩ => ⟨S576x12288, .f32⟩
  | .hbm, ⟨6, _⟩ => ⟨S576x128, .f32⟩
  | .local _ .vmem, ⟨0, _⟩ => ⟨S576x4096, .bf16⟩
  | .local _ .vmem, ⟨1, _⟩ => ⟨S576x1, .f32⟩
  | .local _ .vmem, ⟨2, _⟩ => ⟨S2x12288, .f32⟩
  | .local _ .vmem, ⟨3, _⟩ => ⟨S2x4096x12288, .i8⟩
  | .local _ .vmem, ⟨4, _⟩ => ⟨S576x12288, .f32⟩
  | .local _ .vmem, ⟨5, _⟩ => ⟨S576x128, .f32⟩
  | _, _ => ⟨S576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x12288 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S576x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KDown.lean ====
abbrev S576x12288 : Shape := ⟨2, ![576, 12288]⟩
abbrev S576x128 : Shape := ⟨2, ![576, 128]⟩
abbrev S576x4096 : Shape := ⟨2, ![576, 4096]⟩
abbrev S1x4096 : Shape := ⟨2, ![1, 4096]⟩
abbrev S12288x4096 : Shape := ⟨2, ![12288, 4096]⟩
abbrev S12x48 : Shape := ⟨2, ![12, 48]⟩
abbrev S576x1024 : Shape := ⟨2, ![576, 1024]⟩
abbrev S1024x4096 : Shape := ⟨2, ![1024, 4096]⟩
abbrev S576 : Shape := ⟨1, ![576]⟩
abbrev S576x1 : Shape := ⟨2, ![576, 1]⟩
abbrev S48x128 : Shape := ⟨2, ![48, 128]⟩
abbrev S128x48 : Shape := ⟨2, ![128, 48]⟩
abbrev S1x48 : Shape := ⟨2, ![1, 48]⟩
abbrev S576x512 : Shape := ⟨2, ![576, 512]⟩
abbrev S1024x512 : Shape := ⟨2, ![1024, 512]⟩
abbrev S16x4096 : Shape := ⟨2, ![16, 4096]⟩
abbrev S16x1 : Shape := ⟨2, ![16, 1]⟩

abbrev nBuf : Space → Nat
  | .hbm => 8
  | .vmem => 14
  | .smem => 0
  | _ => 0

abbrev bufTy : (tb : Table) → Fin (tcTables nBuf tb) → BufTy
  | .hbm, ⟨0, _⟩ => ⟨S576x12288, .f32⟩
  | .hbm, ⟨1, _⟩ => ⟨S576x128, .f32⟩
  | .hbm, ⟨2, _⟩ => ⟨S576x4096, .f32⟩
  | .hbm, ⟨3, _⟩ => ⟨S1x4096, .f32⟩
  | .hbm, ⟨4, _⟩ => ⟨S12288x4096, .i8⟩
  | .hbm, ⟨5, _⟩ => ⟨S576x4096, .bf16⟩
  | .hbm, ⟨6, _⟩ => ⟨S576x12288, .i8⟩
  | .hbm, ⟨7, _⟩ => ⟨S12x48, .f32⟩
  | .local _ .vmem, ⟨0, _⟩ => ⟨S576x1024, .f32⟩
  | .local _ .vmem, ⟨1, _⟩ => ⟨S576x1024, .f32⟩
  | .local _ .vmem, ⟨2, _⟩ => ⟨S576x128, .f32⟩
  | .local _ .vmem, ⟨3, _⟩ => ⟨S576x4096, .f32⟩
  | .local _ .vmem, ⟨4, _⟩ => ⟨S1x4096, .f32⟩
  | .local _ .vmem, ⟨5, _⟩ => ⟨S1024x4096, .i8⟩
  | .local _ .vmem, ⟨6, _⟩ => ⟨S1024x4096, .i8⟩
  | .local _ .vmem, ⟨7, _⟩ => ⟨S576x4096, .bf16⟩
  | .local _ .vmem, ⟨8, _⟩ => ⟨S576x1024, .i8⟩
  | .local _ .vmem, ⟨9, _⟩ => ⟨S576x1024, .i8⟩
  | .local _ .vmem, ⟨10, _⟩ => ⟨S12x48, .f32⟩
  | .local _ .vmem, ⟨11, _⟩ => ⟨S576x4096, .f32⟩
  | .local _ .vmem, ⟨12, _⟩ => ⟨S576x128, .f32⟩
  | .local _ .vmem, ⟨13, _⟩ => ⟨S576x128, .f32⟩
  | _, _ => ⟨S576x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v156 : BitVec 1 := Scalar.cmpi .eq arg0 c11_i32
  let v157 : BitVec 32 := Scalar.extui v156
  let c0_i32_106 : BitVec 32 := 0#32
  let v158 : BitVec 1 := Scalar.cmpi .ne v157 c0_i32_106
  v158

@[reducible] def k0_t1_loop : Scf.Loop 32 :=
  let c0_i32_107 : BitVec 32 := 0#32
  let c36_i32 : BitVec 32 := 36#32
  let v159 : BitVec 32 := Scalar.addi c0_i32_107 c36_i32
  let c1_i32 : BitVec 32 := 1#32
  ⟨c0_i32_107, v159, c1_i32⟩
def k0_off1 (k0_t1 : Fin k0_t1_loop.trips) : Fin 2 → Nat :=
  let c0_i32_107 : BitVec 32 := 0#32
  let c1_i32 : BitVec 32 := 1#32
  let arg12 : BitVec 32 := Scf.iv c0_i32_107 c1_i32 k0_t1
  let c16_i32 : BitVec 32 := 16#32
  let v160 : BitVec 32 := Scalar.muli arg12 c16_i32
  let v161 : Index := Scalar.indexCast v160
  let c0_109 : Index := 0#32
  ![v161.toNat, 0]
def k0_off2 (k0_t1 : Fin k0_t1_loop.trips) : Fin 2 → Nat :=
  let c0_i32_107 : BitVec 32 := 0#32
  let c1_i32 : BitVec 32 := 1#32
  let arg12 : BitVec 32 := Scf.iv c0_i32_107 c1_i32 k0_t1
  let c16_i32 : BitVec 32 := 16#32
  let v160 : BitVec 32 := Scalar.muli arg12 c16_i32
  let v163 : Index := Scalar.indexCast v160
  let c0_110 : Index := 0#32
  ![v163.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S576x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S576x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S576x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S12x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RDownIdeal.lean ====
abbrev S576x12288 : Shape := ⟨2, ![576, 12288]⟩
abbrev S576x128 : Shape := ⟨2, ![576, 128]⟩
abbrev S576x4096 : Shape := ⟨2, ![576, 4096]⟩
abbrev S1x4096 : Shape := ⟨2, ![1, 4096]⟩
abbrev S12288x4096 : Shape := ⟨2, ![12288, 4096]⟩
abbrev S_ : Shape := ⟨0, ![]⟩
abbrev S576 : Shape := ⟨1, ![576]⟩
abbrev S12x48 : Shape := ⟨2, ![12, 48]⟩
abbrev S576x1 : Shape := ⟨2, ![576, 1]⟩

abbrev nBuf : Space → Nat
  | .hbm => 21
  | .vmem => 7
  | .smem => 0
  | _ => 0

abbrev bufTy : (tb : Table) → Fin (tcTables nBuf tb) → BufTy
  | .hbm, ⟨0, _⟩ => ⟨S576x12288, .f32⟩
  | .hbm, ⟨1, _⟩ => ⟨S576x128, .f32⟩
  | .hbm, ⟨2, _⟩ => ⟨S576x4096, .f32⟩
  | .hbm, ⟨3, _⟩ => ⟨S1x4096, .f32⟩
  | .hbm, ⟨4, _⟩ => ⟨S12288x4096, .i8⟩
  | .hbm, ⟨5, _⟩ => ⟨S_, .f32⟩
  | .hbm, ⟨6, _⟩ => ⟨S576, .f32⟩
  | .hbm, ⟨7, _⟩ => ⟨S_, .f32⟩
  | .hbm, ⟨8, _⟩ => ⟨S576, .f32⟩
  | .hbm, ⟨9, _⟩ => ⟨S576, .i1⟩
  | .hbm, ⟨10, _⟩ => ⟨S_, .f32⟩
  | .hbm, ⟨11, _⟩ => ⟨S576, .f32⟩
  | .hbm, ⟨12, _⟩ => ⟨S576, .f32⟩
  | .hbm, ⟨13, _⟩ => ⟨S_, .f32⟩
  | .hbm, ⟨14, _⟩ => ⟨S_, .f32⟩
  | .hbm, ⟨15, _⟩ => ⟨S576, .f32⟩
  | .hbm, ⟨16, _⟩ => ⟨S576, .f32⟩
  | .hbm, ⟨17, _⟩ => ⟨S12x48, .f32⟩
  | .hbm, ⟨18, _⟩ => ⟨S576x1, .f32⟩
  | .hbm, ⟨19, _⟩ => ⟨S576x4096, .bf16⟩
  | .hbm, ⟨20, _⟩ => ⟨S576x12288, .i8⟩
  | .local _ .vmem, ⟨0, _⟩ => ⟨S576x12288, .f32⟩
  | .local _ .vmem, ⟨1, _⟩ => ⟨S576x1, .f32⟩
  | .local _ .vmem, ⟨2, _⟩ => ⟨S576x4096, .f32⟩
  | .local _ .vmem, ⟨3, _⟩ => ⟨S1x4096, .f32⟩
  | .local _ .vmem, ⟨4, _⟩ => ⟨S12288x4096, .i8⟩
  | .local _ .vmem, ⟨5, _⟩ => ⟨S576x4096, .bf16⟩
  | .local _ .vmem, ⟨6, _⟩ => ⟨S576x12288, .i8⟩
  | _, _ => ⟨S576x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S576x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S576x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S576x12288 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.GuMath.lean ====
/-
  The gate-up call as mathematics: one element of the activation, and the running lane maximum started at zero against
  the maximum taken over all groups at once.
-/
module

public import Idealize.ShloMosaic.Lib.Pointwise

@[expose] public section

noncomputable section

open Idealize.ShloMosaic

namespace Cert.Proof.Gu

/-- One element of the activation: silu of the scaled gate times the scaled up projection. -/
def actS (dg du sc sg su : EReal) : EReal := dg * sc * sg * Ideal.logistic (dg * sc * sg) * (du * sc * su)

/-- The activation at row `r`, feature `n`, from the arrays. -/
def act (X : Fin 576 → Fin 4096 → EReal) (XS : Fin 576 → EReal) (S : Fin 2 → Fin 12288 → EReal)
    (W : Fin 2 → Fin 4096 → Fin 12288 → BitVec 8) (r : Fin 576) (n : Fin 12288) : EReal :=
  actS (∑ k : Fin 4096, X r k * (((W 0 k n).toInt : ℝ) : EReal)) (∑ k : Fin 4096, X r k * (((W 1 k n).toInt : ℝ) : EReal))
    (XS r) (S 0 n) (S 1 n)

/-- The maximum of the first `n` magnitudes, started at zero. -/
def runMax (g : ℕ → EReal) : ℕ → EReal
  | 0 => 0
  | n + 1 => max (runMax g n) (max (g n) (-g n))

theorem runMax_le_iff (g : ℕ → EReal) (n : ℕ) (b : EReal) :
    runMax g n ≤ b ↔ 0 ≤ b ∧ ∀ k < n, max (g k) (-g k) ≤ b := by
  induction n with
  | zero => simp [runMax]
  | succ n ih =>
    rw [runMax, max_le_iff, ih]
    constructor
    · rintro ⟨⟨h0, h⟩, h'⟩
      refine ⟨h0, fun k hk => ?_⟩
      rcases Nat.lt_succ_iff_lt_or_eq.1 hk with hk | rfl
      · exact h k hk
      · exact h'
    · rintro ⟨h0, h⟩
      exact ⟨⟨h0, fun k hk => h k (Nat.lt_succ_of_lt hk)⟩, h n (Nat.lt_succ_self n)⟩

theorem abs_nonneg' (a : EReal) : 0 ≤ max a (-a) := by
  rcases le_total 0 a with h | h
  · exact h.trans (le_max_left _ _)
  · exact (EReal.neg_nonneg.2 h).trans (le_max_right _ _)

/-- A maximum of magnitudes over `n + 1` entries is the same from zero as from minus infinity. -/
theorem runMax_eq_fold (n : ℕ) (g : ℕ → EReal) (f : Fin (n + 1) → EReal) (h : ∀ k : Fin (n + 1), f k = max (g k) (-g k)) :
    runMax g (n + 1) = Finset.univ.fold max ⊥ f := by
  refine eq_of_forall_ge_iff fun b => ?_
  rw [runMax_le_iff, Finset.fold_max_le]
  constructor
  · rintro ⟨h0, hk⟩
    exact ⟨bot_le, fun k _ => (h k).trans_le (hk k k.isLt)⟩
  · rintro ⟨_, hk⟩
    refine ⟨(abs_nonneg' (g 0)).trans ((h 0).ge.trans (hk 0 (Finset.mem_univ _))), fun k hk' => ?_⟩
    exact (h ⟨k, hk'⟩).ge.trans (hk ⟨k, hk'⟩ (Finset.mem_univ _))

end Cert.Proof.Gu

end
-- ==== Proof.GuCase.lean ====
/-
  One grid point of the gate-up call: what the body leaves in the activation block, in the running lane maxima and in
  the scale column, as functions of the point's blocks.
-/
module

public import proofs.«01_k».proof.Proof.Gen.KGuIdeal.Value
public import proofs.«01_k».proof.Proof.GuMath
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KGuIdeal.Hand

open Cert.KGuIdeal Cert.KGuIdeal.Gen Cert.Proof.Gu

/-- A row of the codes against a column of one weight slab. -/
def dotB (x : Vec Ideal S576x4096 .bf16) (w : Vec Ideal S1x4096x512 .i8) (r : Fin 576) (l : Fin 512) : EReal :=
  ∑ k : Fin 4096, x (ix2 r k) * (((w (ix3 0 k l)).toInt : ℝ) : EReal)

theorem pay20_apply (x : Vec Ideal S576x4096 .bf16) (w : Vec Ideal S1x4096x512 .i8) (r : Fin 576) (l : Fin 512) :
    k0_pay20 x w (ix2 r l) = dotB x w r l := by
  pointwise [k0_pay20, dotB]
  rfl

theorem pay21_apply (x : Vec Ideal S576x4096 .bf16) (w : Vec Ideal S1x4096x512 .i8) (r : Fin 576) (l : Fin 512) :
    k0_pay21 x w (ix2 r l) = dotB x w r l := by
  pointwise [k0_pay21, dotB]
  rfl

/-- The scale column the first point builds: row `48·b + s` holds the scale of batch `b`, position `s`, in every lane. -/
def colB (v : Vec Ideal S12x48 .f32) : Vec Ideal S576x128 .f32 := fun j =>
  v (ix2 ⟨(j 0).val / 48, by have : (j 0).val < 576 := (j 0).isLt; omega⟩ ⟨(j 0).val % 48, Nat.mod_lt _ (by decide)⟩)

/-- The activation block of one point. -/
def blkAct (x0 : Vec Ideal S576x4096 .bf16) (x2 : Vec Ideal S2x512 .f32) (x3 x4 : Vec Ideal S1x4096x512 .i8)
    (col : Vec Ideal S576x128 .f32) (r : Fin 576) (l : Fin 512) : EReal :=
  actS (dotB x0 x3 r l) (dotB x0 x4 r l) (col (ix2 r ⟨l.val % 128, Nat.mod_lt _ (by decide)⟩)) (x2 (ix2 0 l)) (x2 (ix2 1 l))

theorem pay22_apply (x : Vec Ideal S576x4096 .bf16) (w w' : Vec Ideal S1x4096x512 .i8) (c : Vec Ideal S576x128 .f32)
    (s s' : Vec Ideal S1x128 .f32) (r : Fin 576) (l : Fin 128) :
    k0_pay22 x w x w' c s c s' (ix2 r l) = actS (k0_pay20 x w (ix2 r ⟨0 + l.val, by omega⟩)) (k0_pay21 x w' (ix2 r ⟨0 + l.val, by omega⟩)) (c (ix2 r l)) (s (ix2 0 l)) (s' (ix2 0 l)) := by
  unfold k0_pay22 actS
  pointwise

theorem pay25_apply (g u : Vec Ideal S576x512 .f32) (c : Vec Ideal S576x128 .f32)
    (s s' : Vec Ideal S1x128 .f32) (r : Fin 576) (l : Fin 128) :
    k0_pay25 g u c s c s' (ix2 r l) = actS (g (ix2 r ⟨128 + l.val, by omega⟩)) (u (ix2 r ⟨128 + l.val, by omega⟩)) (c (ix2 r l)) (s (ix2 0 l)) (s' (ix2 0 l)) := by
  pointwise [k0_pay25, actS]

theorem pay1_apply (g u : Vec Ideal S576x512 .f32) (c : Vec Ideal S576x128 .f32)
    (s s' : Vec Ideal S1x128 .f32) (r : Fin 576) (l : Fin 128) :
    k0_pay1 (k0_pay27 g c s) (k0_pay28 u c) s' (ix2 r l) = actS (g (ix2 r ⟨256 + l.val, by omega⟩)) (u (ix2 r ⟨256 + l.val, by omega⟩)) (c (ix2 r l)) (s (ix2 0 l)) (s' (ix2 0 l)) := by
  pointwise [k0_pay1, k0_pay27, k0_pay28, actS]

theorem pay3_apply (g u : Vec Ideal S576x512 .f32) (c : Vec Ideal S576x128 .f32)
    (s s' : Vec Ideal S1x128 .f32) (r : Fin 576) (l : Fin 128) :
    k0_pay3 g u c s c s' (ix2 r l) = actS (g (ix2 r ⟨384 + l.val, by omega⟩)) (u (ix2 r ⟨384 + l.val, by omega⟩)) (c (ix2 r l)) (s (ix2 0 l)) (s' (ix2 0 l)) := by
  pointwise [k0_pay3, actS]

theorem pay6_apply (v : Vec Ideal S1x48 .f32) (r : Fin 48) (l : Fin 128) : k0_pay6 v (ix2 r l) = v (ix2 0 r) := by
  pointwise [k0_pay6]

theorem pay7_apply (v : Vec Ideal S1x48 .f32) (r : Fin 48) (l : Fin 128) : k0_pay7 v (ix2 r l) = v (ix2 0 r) := by
  pointwise [k0_pay7]

theorem pay8_apply (v : Vec Ideal S1x48 .f32) (r : Fin 48) (l : Fin 128) : k0_pay8 v (ix2 r l) = v (ix2 0 r) := by
  pointwise [k0_pay8]

theorem pay11_apply (v : Vec Ideal S1x48 .f32) (r : Fin 48) (l : Fin 128) : k0_pay11 v (ix2 r l) = v (ix2 0 r) := by
  pointwise [k0_pay11]

theorem pay12_apply (v : Vec Ideal S1x48 .f32) (r : Fin 48) (l : Fin 128) : k0_pay12 v (ix2 r l) = v (ix2 0 r) := by
  pointwise [k0_pay12]

theorem pay13_apply (v : Vec Ideal S1x48 .f32) (r : Fin 48) (l : Fin 128) : k0_pay13 v (ix2 r l) = v (ix2 0 r) := by
  pointwise [k0_pay13]

theorem pay14_apply (v : Vec Ideal S1x48 .f32) (r : Fin 48) (l : Fin 128) : k0_pay14 v (ix2 r l) = v (ix2 0 r) := by
  pointwise [k0_pay14]

theorem pay15_apply (v : Vec Ideal S1x48 .f32) (r : Fin 48) (l : Fin 128) : k0_pay15 v (ix2 r l) = v (ix2 0 r) := by
  pointwise [k0_pay15]

theorem pay16_apply (v : Vec Ideal S1x48 .f32) (r : Fin 48) (l : Fin 128) : k0_pay16 v (ix2 r l) = v (ix2 0 r) := by
  pointwise [k0_pay16]

theorem pay19_apply (v : Vec Ideal S1x48 .f32) (r : Fin 48) (l : Fin 128) : k0_pay19 v (ix2 r l) = v (ix2 0 r) := by
  pointwise [k0_pay19]

theorem pay10_apply (v : Vec Ideal S1x48 .f32) (r : Fin 48) (l : Fin 128) : k0_pay10 (k0_pay9 v) (ix2 r l) = v (ix2 0 r) := by
  pointwise [k0_pay10, k0_pay9]

theorem pay18_apply (v : Vec Ideal S1x48 .f32) (r : Fin 48) (l : Fin 128) : k0_pay18 (k0_pay17 v) (ix2 r l) = v (ix2 0 r) := by
  pointwise [k0_pay18, k0_pay17]

/-- Row `b` of the scales, loaded alone, at position `r`. -/
theorem ld_row (v : Vec Ideal S12x48 .f32) (b : Nat) (hb : b < 12) (inb : ∀ a, (![b, 0] : Fin 2 → Nat) a + (![1, 48] : Fin 2 → Nat) a ≤ S12x48.size a) (r : Fin 48) :
    View.ld v (Rect.unit ![b, 0] ![1, 48] inb) (ix2 0 r) = v (ix2 ⟨b, hb⟩ r) :=
  View.ld_unit_apply_of _ _ _ _ _ _ (fun a => by fin_cases a <;> simp)

/-- A strip of a scale row, loaded alone. -/
theorem ld_strip (v : Vec Ideal S2x512 .f32) (g o : Nat) (hg : g < 2) (inb : ∀ a, (![g, o] : Fin 2 → Nat) a + (![1, 128] : Fin 2 → Nat) a ≤ S2x512.size a) (l : Fin 128)
    (hl : o + l.val < 512) :
    View.ld v (Rect.unit ![g, o] ![1, 128] inb) (ix2 0 l) = v (ix2 ⟨g, hg⟩ ⟨o + l.val, hl⟩) :=
  View.ld_unit_apply_of _ _ _ _ _ _ (fun a => by fin_cases a <;> simp)

/-- The columns from 0 on: what the body computes there is the activation block. -/
theorem strip0 (x0 : Vec Ideal S576x4096 .bf16) (x2 : Vec Ideal S2x512 .f32) (x3 x4 : Vec Ideal S1x4096x512 .i8) (col : Vec Ideal S576x128 .f32) (r : Fin 576) (l : Fin 128) :
    k0_pay22 x0 x3 x0 x4 col (View.ld x2 (Rect.unit ![0, 0] ![1, 128] inb_S2x512_S1x128_0_0)) col (View.ld x2 (Rect.unit ![1, 0] ![1, 128] inb_S2x512_S1x128_1_0)) (ix2 r l)
      = blkAct x0 x2 x3 x4 col r ⟨0 + l.val, by omega⟩ := by
  rw [pay22_apply, pay20_apply, pay21_apply, ld_strip _ _ _ (by decide) _ _ (by omega), ld_strip _ _ _ (by decide) _ _ (by omega)]
  unfold blkAct
  congr 2
  exact congrArg (ix2 r) (Fin.ext (by show l.val = (0 + l.val) % 128; omega))

/-- The columns from 128 on: what the body computes there is the activation block. -/
theorem strip128 (x0 : Vec Ideal S576x4096 .bf16) (x2 : Vec Ideal S2x512 .f32) (x3 x4 : Vec Ideal S1x4096x512 .i8) (col : Vec Ideal S576x128 .f32) (r : Fin 576) (l : Fin 128) :
    k0_pay25 (k0_pay20 x0 x3) (k0_pay21 x0 x4) col (View.ld x2 (Rect.unit ![0, 128] ![1, 128] inb_S2x512_S1x128_0_128)) col (View.ld x2 (Rect.unit ![1, 128] ![1, 128] inb_S2x512_S1x128_1_128)) (ix2 r l)
      = blkAct x0 x2 x3 x4 col r ⟨128 + l.val, by omega⟩ := by
  rw [pay25_apply, pay20_apply, pay21_apply, ld_strip _ _ _ (by decide) _ _ (by omega), ld_strip _ _ _ (by decide) _ _ (by omega)]
  unfold blkAct
  congr 2
  exact congrArg (ix2 r) (Fin.ext (by show l.val = (128 + l.val) % 128; omega))

/-- The columns from 256 on: what the body computes there is the activation block. -/
theorem strip256 (x0 : Vec Ideal S576x4096 .bf16) (x2 : Vec Ideal S2x512 .f32) (x3 x4 : Vec Ideal S1x4096x512 .i8) (col : Vec Ideal S576x128 .f32) (r : Fin 576) (l : Fin 128) :
    k0_pay1 (k0_pay27 (k0_pay20 x0 x3) col (View.ld x2 (Rect.unit ![0, 256] ![1, 128] inb_S2x512_S1x128_0_256))) (k0_pay28 (k0_pay21 x0 x4) col) (View.ld x2 (Rect.unit ![1, 256] ![1, 128] inb_S2x512_S1x128_1_256)) (ix2 r l)
      = blkAct x0 x2 x3 x4 col r ⟨256 + l.val, by omega⟩ := by
  rw [pay1_apply, pay20_apply, pay21_apply, ld_strip _ _ _ (by decide) _ _ (by omega), ld_strip _ _ _ (by decide) _ _ (by omega)]
  unfold blkAct
  congr 2
  exact congrArg (ix2 r) (Fin.ext (by show l.val = (256 + l.val) % 128; omega))

/-- The columns from 384 on: what the body computes there is the activation block. -/
theorem strip384 (x0 : Vec Ideal S576x4096 .bf16) (x2 : Vec Ideal S2x512 .f32) (x3 x4 : Vec Ideal S1x4096x512 .i8) (col : Vec Ideal S576x128 .f32) (r : Fin 576) (l : Fin 128) :
    k0_pay3 (k0_pay20 x0 x3) (k0_pay21 x0 x4) col (View.ld x2 (Rect.unit ![0, 384] ![1, 128] inb_S2x512_S1x128_0_384)) col (View.ld x2 (Rect.unit ![1, 384] ![1, 128] inb_S2x512_S1x128_1_384)) (ix2 r l)
      = blkAct x0 x2 x3 x4 col r ⟨384 + l.val, by omega⟩ := by
  rw [pay3_apply, pay20_apply, pay21_apply, ld_strip _ _ _ (by decide) _ _ (by omega), ld_strip _ _ _ (by decide) _ _ (by omega)]
  unfold blkAct
  congr 2
  exact congrArg (ix2 r) (Fin.ext (by show l.val = (384 + l.val) % 128; omega))

/-- The running maxima after one point: the four strips of the block folded in, first to last. -/
def blkMax (old : EReal) (A : Fin 512 → EReal) (l : Fin 128) : EReal :=
  max (max (max (max old (max (A ⟨0 + l.val, by omega⟩) (-A ⟨0 + l.val, by omega⟩)))
    (max (A ⟨128 + l.val, by omega⟩) (-A ⟨128 + l.val, by omega⟩)))
    (max (A ⟨256 + l.val, by omega⟩) (-A ⟨256 + l.val, by omega⟩)))
    (max (A ⟨384 + l.val, by omega⟩) (-A ⟨384 + l.val, by omega⟩))

/-- A whole load of the column the stores of the first point built. -/
theorem readCov_col (v : View sig .tc .vmem S576x128 .f32) (L : List (View.Piece (Elt Ideal) S576x128 .f32)) (X : Vec Ideal S576x128 .f32)
    (inb : ∀ a, (![0, 0] : Fin 2 → Nat) a + (![576, 128] : Fin 2 → Nat) a ≤ S576x128.size a) (h : View.canon L = X) :
    v.readCov L (Rect.unit ![0, 0] ![576, 128] inb).toLoadRect = X := by
  rw [View.readCov_eq_canon', h]
  exact View.ld_unit_zero (S := S576x128) (funext fun a => by fin_cases a <;> rfl) inb X

/-- The first point leaves the scale column. -/
theorem sout_A (c : Dev nD) (i : grid0.Coords) (a1 : Memref sig .tc .vmem S576x4096 .bf16) (h1 : a1.IsWhole) (a2 : Memref sig .tc .vmem S12x48 .f32) (h2 : a2.IsWhole) (a3 : Memref sig .tc .vmem S2x512 .f32) (h3 : a3.IsWhole) (a4 : Memref sig .tc .vmem S1x4096x512 .i8) (h4 : a4.IsWhole) (a5 : Memref sig .tc .vmem S1x4096x512 .i8) (h5 : a5.IsWhole) (a6 : Memref sig .tc .vmem S576x512 .f32) (h6 : a6.IsWhole) (a7 : Memref sig .tc .vmem S576x128 .f32) (h7 : a7.IsWhole) (a8 : Memref sig .tc .vmem S576x128 .f32) (h8 : a8.IsWhole) (hc : cond0_0 i)
    (x0 : Vec Ideal S576x4096 .bf16) (x1 : Vec Ideal S12x48 .f32) (x2 : Vec Ideal S2x512 .f32) (x3 x4 : Vec Ideal S1x4096x512 .i8) :
    sout0_A_0 c i a1 h1 a2 h2 a3 h3 a4 h4 a5 h5 a6 h6 a7 h7 a8 h8 hc x0 x1 x2 x3 x4 = colB x1 := by
  funext y
  frame_out
  canon_tiles x h
  all_goals
    obtain ⟨xa, xb, rfl⟩ : ∃ xa xb, x = ix2 xa xb := ⟨x 0, x 1, eq_ix2 x⟩
    first | rw [pay6_apply] | rw [pay7_apply] | rw [pay8_apply] | rw [pay10_apply] | rw [pay11_apply] | rw [pay12_apply] | rw [pay13_apply] | rw [pay14_apply] | rw [pay15_apply] | rw [pay16_apply] | rw [pay18_apply] | rw [pay19_apply]
    rw [ld_row _ _ (by decide)]
    unfold colB
    have hx := xa.isLt
    first | change (y 0).val = _ + xa.val at h0 | change (y 0).val = xa.val at h0
    refine congrArg x1 (congrArg₂ ix2 (Fin.ext ?_) (Fin.ext ?_))
    · show _ = (y 0).val / 48
      dsimp only
      omega
    · show xa.val = (y 0).val % 48
      omega

/-- A later point's activation block. -/
theorem out_B_5 (c : Dev nD) (i : grid0.Coords) (a1 : Memref sig .tc .vmem S576x4096 .bf16) (h1 : a1.IsWhole) (a2 : Memref sig .tc .vmem S12x48 .f32) (h2 : a2.IsWhole) (a3 : Memref sig .tc .vmem S2x512 .f32) (h3 : a3.IsWhole) (a4 : Memref sig .tc .vmem S1x4096x512 .i8) (h4 : a4.IsWhole) (a5 : Memref sig .tc .vmem S1x4096x512 .i8) (h5 : a5.IsWhole) (a6 : Memref sig .tc .vmem S576x512 .f32) (h6 : a6.IsWhole) (a7 : Memref sig .tc .vmem S576x128 .f32) (h7 : a7.IsWhole) (a8 : Memref sig .tc .vmem S576x128 .f32) (h8 : a8.IsWhole) (hc : ¬cond0_0 i)
    (x0 : Vec Ideal S576x4096 .bf16) (x1 : Vec Ideal S12x48 .f32) (x2 : Vec Ideal S2x512 .f32) (x3 x4 : Vec Ideal S1x4096x512 .i8) (xo : Vec Ideal S576x128 .f32) (xs : Vec Ideal S576x128 .f32) (r : Fin 576) (l : Fin 512) :
    out0_B_5 c i a1 h1 a2 h2 a3 h3 a4 h4 a5 h5 a6 h6 a7 h7 a8 h8 hc x0 x1 x2 x3 x4 xo xs (ix2 r l) = blkAct x0 x2 x3 x4 xs r l := by
  frame_out
  canon_tiles x hA
  all_goals
    obtain ⟨xa, xb, rfl⟩ : ∃ xa xb, x = ix2 xa xb := ⟨x 0, x 1, eq_ix2 x⟩
    first | rw [strip0] | rw [strip128] | rw [strip256] | rw [strip384]
    have e0 : xa = r := Fin.ext hA0.symm
    rw [e0]
    exact congrArg _ (by first | exact Fin.ext hA1.symm | exact Fin.ext ((Nat.zero_add _).trans hA1.symm))

/-- A later point's running maxima. -/
theorem out_B_6 (c : Dev nD) (i : grid0.Coords) (a1 : Memref sig .tc .vmem S576x4096 .bf16) (h1 : a1.IsWhole) (a2 : Memref sig .tc .vmem S12x48 .f32) (h2 : a2.IsWhole) (a3 : Memref sig .tc .vmem S2x512 .f32) (h3 : a3.IsWhole) (a4 : Memref sig .tc .vmem S1x4096x512 .i8) (h4 : a4.IsWhole) (a5 : Memref sig .tc .vmem S1x4096x512 .i8) (h5 : a5.IsWhole) (a6 : Memref sig .tc .vmem S576x512 .f32) (h6 : a6.IsWhole) (a7 : Memref sig .tc .vmem S576x128 .f32) (h7 : a7.IsWhole) (a8 : Memref sig .tc .vmem S576x128 .f32) (h8 : a8.IsWhole) (hc : ¬cond0_0 i)
    (x0 : Vec Ideal S576x4096 .bf16) (x1 : Vec Ideal S12x48 .f32) (x2 : Vec Ideal S2x512 .f32) (x3 x4 : Vec Ideal S1x4096x512 .i8) (xo : Vec Ideal S576x128 .f32) (xs : Vec Ideal S576x128 .f32) (r : Fin 576) (l : Fin 128) :
    out0_B_6 c i a1 h1 a2 h2 a3 h3 a4 h4 a5 h5 a6 h6 a7 h7 a8 h8 hc x0 x1 x2 x3 x4 xo xs (ix2 r l) = blkMax (xo (ix2 r l)) (blkAct x0 x2 x3 x4 xs r) l := by
  frame_out
  pointwise [k0_pay4, k0_pay2, k0_pay26, k0_pay24, k0_pay23]
  rw [strip0, strip128, strip256, strip384]
  rfl

/-- The first point's activation block. -/
theorem out_A_5 (c : Dev nD) (i : grid0.Coords) (a1 : Memref sig .tc .vmem S576x4096 .bf16) (h1 : a1.IsWhole) (a2 : Memref sig .tc .vmem S12x48 .f32) (h2 : a2.IsWhole) (a3 : Memref sig .tc .vmem S2x512 .f32) (h3 : a3.IsWhole) (a4 : Memref sig .tc .vmem S1x4096x512 .i8) (h4 : a4.IsWhole) (a5 : Memref sig .tc .vmem S1x4096x512 .i8) (h5 : a5.IsWhole) (a6 : Memref sig .tc .vmem S576x512 .f32) (h6 : a6.IsWhole) (a7 : Memref sig .tc .vmem S576x128 .f32) (h7 : a7.IsWhole) (a8 : Memref sig .tc .vmem S576x128 .f32) (h8 : a8.IsWhole) (hc : cond0_0 i)
    (x0 : Vec Ideal S576x4096 .bf16) (x1 : Vec Ideal S12x48 .f32) (x2 : Vec Ideal S2x512 .f32) (x3 x4 : Vec Ideal S1x4096x512 .i8) (r : Fin 576) (l : Fin 512) :
    out0_A_5 c i a1 h1 a2 h2 a3 h3 a4 h4 a5 h5 a6 h6 a7 h7 a8 h8 hc x0 x1 x2 x3 x4 (ix2 r l) = blkAct x0 x2 x3 x4 (colB x1) r l := by
  have hcol := sout_A c i a1 h1 a2 h2 a3 h3 a4 h4 a5 h5 a6 h6 a7 h7 a8 h8 hc x0 x1 x2 x3 x4
  frame_out at hcol
  frame_out
  rw [readCov_col _ _ _ _ hcol]
  canon_tiles x hA
  all_goals
    obtain ⟨xa, xb, rfl⟩ : ∃ xa xb, x = ix2 xa xb := ⟨x 0, x 1, eq_ix2 x⟩
    first | rw [strip0] | rw [strip128] | rw [strip256] | rw [strip384]
    have e0 : xa = r := Fin.ext hA0.symm
    rw [e0]
    exact congrArg _ (by first | exact Fin.ext hA1.symm | exact Fin.ext ((Nat.zero_add _).trans hA1.symm))

/-- The first point's running maxima, from zero. -/
theorem out_A_6 (c : Dev nD) (i : grid0.Coords) (a1 : Memref sig .tc .vmem S576x4096 .bf16) (h1 : a1.IsWhole) (a2 : Memref sig .tc .vmem S12x48 .f32) (h2 : a2.IsWhole) (a3 : Memref sig .tc .vmem S2x512 .f32) (h3 : a3.IsWhole) (a4 : Memref sig .tc .vmem S1x4096x512 .i8) (h4 : a4.IsWhole) (a5 : Memref sig .tc .vmem S1x4096x512 .i8) (h5 : a5.IsWhole) (a6 : Memref sig .tc .vmem S576x512 .f32) (h6 : a6.IsWhole) (a7 : Memref sig .tc .vmem S576x128 .f32) (h7 : a7.IsWhole) (a8 : Memref sig .tc .vmem S576x128 .f32) (h8 : a8.IsWhole) (hc : cond0_0 i)
    (x0 : Vec Ideal S576x4096 .bf16) (x1 : Vec Ideal S12x48 .f32) (x2 : Vec Ideal S2x512 .f32) (x3 x4 : Vec Ideal S1x4096x512 .i8) (r : Fin 576) (l : Fin 128) :
    out0_A_6 c i a1 h1 a2 h2 a3 h3 a4 h4 a5 h5 a6 h6 a7 h7 a8 h8 hc x0 x1 x2 x3 x4 (ix2 r l) = blkMax 0 (blkAct x0 x2 x3 x4 (colB x1) r) l := by
  have hcol := sout_A c i a1 h1 a2 h2 a3 h3 a4 h4 a5 h5 a6 h6 a7 h7 a8 h8 hc x0 x1 x2 x3 x4
  frame_out at hcol
  frame_out
  rw [readCov_col _ _ _ _ hcol]
  pointwise [k0_pay4, k0_pay2, k0_pay26, k0_pay24, k0_pay23, k0_pay5]
  rw [strip0, strip128, strip256, strip384]
  rfl

end Cert.KGuIdeal.Hand

end
-- ==== Proof.GuFold.lean ====
/-
  The gate-up call over its grid: the two output arrays in closed form.
-/
module

public import proofs.«01_k».proof.Proof.GuCase

@[expose] public section

set_option maxRecDepth 16384

noncomputable section

open Idealize.ShloMosaic Idealize.ShloMosaic.TcCoe Idealize.SL.Sem
open Idealize.ShloMosaic.Pipeline (Dat)

namespace Cert.KGuIdeal.Hand

open Cert.KGuIdeal Cert.KGuIdeal.Gen Cert.KGuIdeal.Value Cert.Proof.Gu

variable (m : (ℓ : Loc nD τ sig) → Buf (Elt Ideal) ℓ)

/-- The four arguments as the arrays the formulas read. -/
def aX (c : Dev nD) (r : Fin 576) (k : Fin 4096) : EReal := (m ((c : Thread nD τ).loc main_arg0) : Vec Ideal S576x4096 .bf16) (ix2 r k)
def aXS (c : Dev nD) (r : Fin 576) : EReal :=
  (m ((c : Thread nD τ).loc main_arg1) : Vec Ideal S12x48 .f32) (ix2 ⟨r.val / 48, by omega⟩ ⟨r.val % 48, Nat.mod_lt _ (by decide)⟩)
def aS (c : Dev nD) (g : Fin 2) (n : Fin 12288) : EReal := (m ((c : Thread nD τ).loc main_arg2) : Vec Ideal S2x12288 .f32) (ix2 g n)
def aW (c : Dev nD) (g : Fin 2) (k : Fin 4096) (n : Fin 12288) : BitVec 8 :=
  (m ((c : Thread nD τ).loc main_arg3) : Vec Ideal S2x4096x12288 .i8) (ix3 g k n)

/-- The activation the call computes. -/
def aAct (c : Dev nD) : Fin 576 → Fin 12288 → EReal := act (aX m c) (aXS m c) (aS m c) (aW m c)

/-- Entry `j` of lane `l`: feature `128·j + l`. -/
def laneG (c : Dev nD) (r : Fin 576) (l : Fin 128) (j : ℕ) : EReal :=
  if h : 128 * j + l.val < 12288 then aAct m c r ⟨128 * j + l.val, h⟩ else 0

theorem ix0 : ∀ t : Fin cfg0.N, win0_0.index t = ![0, 0] := (by decide +kernel : ∀ t : Fin grid0.N, _)
theorem ix1 : ∀ t : Fin cfg0.N, win0_1.index t = ![0, 0] := (by decide +kernel : ∀ t : Fin grid0.N, _)
theorem ixs2 : ∀ t : Fin cfg0.N, win0_2.index t = ![0, t.val] := (by decide +kernel : ∀ t : Fin grid0.N, _)
theorem ixs3 : ∀ t : Fin cfg0.N, win0_3.index t = ![0, 0, t.val] := (by decide +kernel : ∀ t : Fin grid0.N, _)
theorem ixs4 : ∀ t : Fin cfg0.N, win0_4.index t = ![1, 0, t.val] := (by decide +kernel : ∀ t : Fin grid0.N, _)
theorem ixs5 : ∀ t : Fin cfg0.N, win0_5.index t = ![0, t.val] := (by decide +kernel : ∀ t : Fin grid0.N, _)

theorem N24 (t : Fin cfg0.N) : t.val < 24 := lt_of_lt_of_eq t.isLt N_0

theorem blk0 (c : Dev nD) (t : Fin cfg0.N) (r : Fin 576) (k : Fin 4096) :
    (iblk m c 0 t : Vec Ideal S576x4096 .bf16) (ix2 r k) = aX m c r k := by
  have e := ix0 t
  unfold aX
  blk_simp [iblk, V_main_arg0, e]
  refine congrArg (m ((c : Thread nD τ).loc main_arg0)) ?_
  blk_ext [e]

theorem blk1 (c : Dev nD) (t : Fin cfg0.N) : colB (iblk m c 1 t : Vec Ideal S12x48 .f32) = fun j => aXS m c (j 0) := by
  have e := ix1 t
  unfold aXS colB
  funext j
  blk_simp [iblk, V_main_arg1, e]
  refine congrArg (m ((c : Thread nD τ).loc main_arg1)) ?_
  blk_ext [e]

theorem blk2 (c : Dev nD) (t : Fin cfg0.N) (g : Fin 2) (l : Fin 512) (h : 512 * t.val + l.val < 12288) :
    (iblk m c 2 t : Vec Ideal S2x512 .f32) (ix2 g l) = aS m c g ⟨512 * t.val + l.val, h⟩ := by
  have e := ixs2 t
  unfold aS
  blk_simp [iblk, V_main_arg2, e]
  refine congrArg (m ((c : Thread nD τ).loc main_arg2)) ?_
  blk_ext [e]

theorem blk3 (c : Dev nD) (t : Fin cfg0.N) (k : Fin 4096) (l : Fin 512) (h : 512 * t.val + l.val < 12288) :
    (iblk m c 3 t : Vec Ideal S1x4096x512 .i8) (ix3 0 k l) = aW m c 0 k ⟨512 * t.val + l.val, h⟩ := by
  have e := ixs3 t
  unfold aW
  blk_simp [iblk, V_main_arg3, e]
  refine congrArg (m ((c : Thread nD τ).loc main_arg3)) ?_
  blk_ext [e]

theorem blk4 (c : Dev nD) (t : Fin cfg0.N) (k : Fin 4096) (l : Fin 512) (h : 512 * t.val + l.val < 12288) :
    (iblk m c 4 t : Vec Ideal S1x4096x512 .i8) (ix3 0 k l) = aW m c 1 k ⟨512 * t.val + l.val, h⟩ := by
  have e := ixs4 t
  unfold aW
  blk_simp [iblk, V_main_arg3, e]
  refine congrArg (m ((c : Thread nD τ).loc main_arg3)) ?_
  blk_ext [e]

theorem blkAct_eq (c : Dev nD) (t : Fin cfg0.N) (r : Fin 576) (l : Fin 512) (h : 512 * t.val + l.val < 12288) :
    blkAct (iblk m c 0 t) (iblk m c 2 t) (iblk m c 3 t) (iblk m c 4 t) (fun j => aXS m c (j 0)) r l
      = aAct m c r ⟨512 * t.val + l.val, h⟩ := by
  unfold blkAct dotB aAct act
  simp only [blk0 m c t, blk2 m c t _ l h, blk3 m c t _ l h, blk4 m c t _ l h]
  rfl

/-- Four strips extend the running maximum by four entries. -/
theorem blkMax_eq (c : Dev nD) (t : Fin cfg0.N) (r : Fin 576) (l : Fin 128) (old : EReal) (hold : old = runMax (laneG m c r l) (4 * t.val)) :
    blkMax old (blkAct (iblk m c 0 t) (iblk m c 2 t) (iblk m c 3 t) (iblk m c 4 t) (fun j => aXS m c (j 0)) r) l
      = runMax (laneG m c r l) (4 * t.val + 4) := by
  have ht := N24 t
  have e : ∀ (q : ℕ) (hq : q < 4) (h : 128 * q + l.val < 512),
      blkAct (iblk m c 0 t) (iblk m c 2 t) (iblk m c 3 t) (iblk m c 4 t) (fun j => aXS m c (j 0)) r ⟨128 * q + l.val, h⟩
        = laneG m c r l (4 * t.val + q) := by
    intro q hq h
    rw [blkAct_eq m c t r ⟨128 * q + l.val, h⟩ (by dsimp only; omega)]
    unfold laneG
    rw [dif_pos (by omega)]
    refine congrArg (aAct m c r) (Fin.ext ?_)
    dsimp only
    omega
  have e0 := e 0 (by omega) (by omega)
  have e1 := e 1 (by omega) (by omega)
  have e2 := e 2 (by omega) (by omega)
  have e3 := e 3 (by omega) (by omega)
  simp only [Nat.mul_zero, Nat.mul_one, Nat.reduceMul, Nat.add_zero] at e0 e1 e2 e3
  unfold blkMax
  rw [e0, e1, e2, e3, hold]
  rfl

/-- The state after point `n`. -/
theorem outs_eq (c : Dev nD) (n : ℕ) (hn : n < cfg0.N) :
    (outsAt0 m c n hn).2.2 = (fun j => aXS m c (j 0))
    ∧ (∀ (r : Fin 576) (l : Fin 128), (outsAt0 m c n hn).2.1 (ix2 r l) = runMax (laneG m c r l) (4 * n + 4))
    ∧ (∀ (r : Fin 576) (l : Fin 512) (h : 512 * n + l.val < 12288), (outsAt0 m c n hn).1 (ix2 r l) = aAct m c r ⟨512 * n + l.val, h⟩) := by
  induction n with
  | zero =>
    rw [outsAt0_A m c ⟨0, hn⟩ (Nat.zero_mod _)]
    refine ⟨?_, fun r l => ?_, fun r l h => ?_⟩
    · dsimp only
      rw [sout_A, blk1]
    · dsimp only
      rw [out_A_6, blk1 m c ⟨0, hn⟩]
      exact blkMax_eq m c ⟨0, hn⟩ r l 0 rfl
    · dsimp only
      rw [out_A_5, blk1 m c ⟨0, hn⟩]
      exact blkAct_eq m c ⟨0, hn⟩ r l h
  | succ n ih =>
    have hN := lt_of_lt_of_eq hn (show cfg0.N = 24 from N_0)
    obtain ⟨i1, i2, i3⟩ := ih (Nat.lt_of_succ_lt hn)
    rw [outsAt0_B m c ⟨n + 1, hn⟩ (by dsimp only; omega)]
    refine ⟨?_, fun r l => ?_, fun r l h => ?_⟩
    · exact i1
    · dsimp only
      rw [out_B_6]
      simp only [Nat.add_sub_cancel]
      rw [i1]
      exact blkMax_eq m c ⟨n + 1, hn⟩ r l _ ((i2 r l).trans rfl)
    · dsimp only
      rw [out_B_5]
      simp only [Nat.add_sub_cancel]
      rw [i1]
      exact blkAct_eq m c ⟨n + 1, hn⟩ r l h

/-- The activation array after the run. -/
theorem act_final (c : Dev nD) :
    (dats m 0 c).arrAt 5 cfg0.N = (fun i => aAct m c (i 0) (i 1) : Vec Ideal S576x12288 .f32) := by
  refine (dats m 0 c).arrAt_eq_of_covers 5 _ (by decide +kernel) fun t hf y => ?_
  have e := ixs5 t
  have ht := N24 t
  obtain ⟨r, l, rfl⟩ : ∃ (r : Fin 576) (l : Fin 512), y = ix2 r l := ⟨y 0, y 1, eq_ix2 y⟩
  rw [after0_5]
  refine ((outs_eq m c t.val t.isLt).2.2 r l (by omega)).trans ?_
  refine congr (congrArg (aAct m c) (Fin.ext ?_)) (Fin.ext ?_)
  · blk_simp [e]
  · blk_simp [e]
    dsimp only
    omega

/-- The lane maxima after the run. -/
theorem amax_final (c : Dev nD) :
    (dats m 0 c).arrAt 6 cfg0.N = (fun i => runMax (laneG m c (i 0) (i 1)) 96 : Vec Ideal S576x128 .f32) := by
  rw [final6, G6_last, ← outsAt0_sweep m c 23 (lt_of_lt_of_eq (by decide) N_0.symm)]
  funext i
  obtain ⟨r, l, rfl⟩ : ∃ (r : Fin 576) (l : Fin 128), i = ix2 r l := ⟨i 0, i 1, eq_ix2 i⟩
  exact (outs_eq m c 23 _).2.1 r l

end Cert.KGuIdeal.Hand

end
-- ==== Proof.GuRef.lean ====
/-
  The gate-up reference: its two results in closed form.
-/
module

public import proofs.«01_k».proof.Proof.Gen.RGuIdeal.Value
public import proofs.«01_k».proof.Proof.GuMath
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RGuIdeal.Hand

open Cert.RGuIdeal Cert.RGuIdeal.Gen Cert.RGuIdeal.Value Cert.Proof.Gu

/-- The activation of the reference's body, from its four blocks. -/
def rAct (x0 : Vec Ideal S576x4096 .bf16) (x1 : Vec Ideal S576x1 .f32) (x2 : Vec Ideal S2x12288 .f32)
    (x3 : Vec Ideal S2x4096x12288 .i8) : Fin 576 → Fin 12288 → EReal :=
  act (fun r k => x0 (ix2 r k)) (fun r => x1 (ix2 r 0)) (fun g n => x2 (ix2 g n)) (fun g k n => x3 (ix3 g k n))

theorem pay1_apply (x0 : Vec Ideal S576x4096 .bf16) (w : Vec Ideal S1x4096x12288 .i8) (x1 : Vec Ideal S576x1 .f32) (s : Vec Ideal S1x12288 .f32)
    (w' : Vec Ideal S1x4096x12288 .i8) (s' : Vec Ideal S1x12288 .f32) (r : Fin 576) (n : Fin 12288) :
    k0_pay1 x0 w x1 s x0 w' x1 s' (ix2 r n)
      = actS (∑ k : Fin 4096, x0 (ix2 r k) * (((w (ix3 0 k n)).toInt : ℝ) : EReal)) (∑ k : Fin 4096, x0 (ix2 r k) * (((w' (ix3 0 k n)).toInt : ℝ) : EReal))
          (x1 (ix2 r 0)) (s (ix2 0 n)) (s' (ix2 0 n)) := by
  pointwise [k0_pay1, actS]
  rfl

/-- A weight slab, loaded alone. -/
theorem ld_slab (v : Vec Ideal S2x4096x12288 .i8) (g : Nat) (hg : g < 2)
    (inb : ∀ a, (![g, 0, 0] : Fin 3 → Nat) a + (![1, 4096, 12288] : Fin 3 → Nat) a ≤ S2x4096x12288.size a) (k : Fin 4096) (n : Fin 12288) :
    View.ld v (Rect.unit ![g, 0, 0] ![1, 4096, 12288] inb) (ix3 0 k n) = v (ix3 ⟨g, hg⟩ k n) :=
  View.ld_unit_apply_of _ _ _ _ _ _ (fun a => by fin_cases a <;> simp)

/-- A scale row, loaded alone. -/
theorem ld_row (v : Vec Ideal S2x12288 .f32) (g : Nat) (hg : g < 2)
    (inb : ∀ a, (![g, 0] : Fin 2 → Nat) a + (![1, 12288] : Fin 2 → Nat) a ≤ S2x12288.size a) (n : Fin 12288) :
    View.ld v (Rect.unit ![g, 0] ![1, 12288] inb) (ix2 0 n) = v (ix2 ⟨g, hg⟩ n) :=
  View.ld_unit_apply_of _ _ _ _ _ _ (fun a => by fin_cases a <;> simp)

theorem pay1_ld (x0 : Vec Ideal S576x4096 .bf16) (x1 : Vec Ideal S576x1 .f32) (x2 : Vec Ideal S2x12288 .f32)
    (x3 : Vec Ideal S2x4096x12288 .i8) (r : Fin 576) (n : Fin 12288) :
    k0_pay1 x0 (View.ld x3 r0_1) x1 (View.ld x2 r0_3) x0 (View.ld x3 r0_4) x1 (View.ld x2 r0_5) (ix2 r n) = rAct x0 x1 x2 x3 r n := by
  rw [pay1_apply]
  unfold rAct act
  have e1 : ∀ k, View.ld x3 r0_1 (ix3 0 k n) = x3 (ix3 0 k n) := fun k => ld_slab x3 0 (by decide) _ k n
  have e2 : ∀ k, View.ld x3 r0_4 (ix3 0 k n) = x3 (ix3 1 k n) := fun k => ld_slab x3 1 (by decide) _ k n
  have e3 : View.ld x2 r0_3 (ix2 0 n) = x2 (ix2 0 n) := ld_row x2 0 (by decide) _ n
  have e4 : View.ld x2 r0_5 (ix2 0 n) = x2 (ix2 1 n) := ld_row x2 1 (by decide) _ n
  simp only [e1, e2, e3, e4]

theorem out4_apply (x0 : Vec Ideal S576x4096 .bf16) (x1 : Vec Ideal S576x1 .f32) (x2 : Vec Ideal S2x12288 .f32)
    (x3 : Vec Ideal S2x4096x12288 .i8) (r : Fin 576) (n : Fin 12288) : out0_4 x0 x1 x2 x3 (ix2 r n) = rAct x0 x1 x2 x3 r n := by
  frame_out
  exact pay1_ld ..

theorem pay2_apply (x0 : Vec Ideal S576x4096 .bf16) (w : Vec Ideal S1x4096x12288 .i8) (x1 : Vec Ideal S576x1 .f32) (s : Vec Ideal S1x12288 .f32)
    (w' : Vec Ideal S1x4096x12288 .i8) (s' : Vec Ideal S1x12288 .f32) (r : Fin 576) (l : Fin 128) :
    k0_pay2 x0 w x1 s x0 w' x1 s' (ix2 r l)
      = Finset.univ.fold max ⊥ (fun j : Fin 96 => max (k0_pay1 x0 w x1 s x0 w' x1 s' (ix2 r ⟨128 * j.val + l.val, by omega⟩)) (-k0_pay1 x0 w x1 s x0 w' x1 s' (ix2 r ⟨128 * j.val + l.val, by omega⟩))) := by
  unfold k0_pay2
  generalize k0_pay1 x0 w x1 s x0 w' x1 s' = p
  pointwise
  rw [show Ideal.ofBits .f32 0xFF800000#32 = ⊥ by simp [Ideal.ofBits, Ideal.ieee]]
  refine congrArg (fun f => Finset.fold max ⊥ f Finset.univ) (funext fun j => ?_)
  have e : (⟨j.val * 128 + l.val, by omega⟩ : Fin 12288) = ⟨128 * j.val + l.val, by omega⟩ := Fin.ext (by dsimp only; omega)
  rw [← e]
  rfl

/-- Entry `j` of lane `l`: feature `128·j + l`. -/
def laneR (A : Fin 576 → Fin 12288 → EReal) (r : Fin 576) (l : Fin 128) (j : ℕ) : EReal :=
  if h : 128 * j + l.val < 12288 then A r ⟨128 * j + l.val, h⟩ else 0

theorem out5_apply (x0 : Vec Ideal S576x4096 .bf16) (x1 : Vec Ideal S576x1 .f32) (x2 : Vec Ideal S2x12288 .f32)
    (x3 : Vec Ideal S2x4096x12288 .i8) (r : Fin 576) (l : Fin 128) :
    out0_5 x0 x1 x2 x3 (ix2 r l) = runMax (laneR (rAct x0 x1 x2 x3) r l) 96 := by
  frame_out
  rw [pay2_apply]
  simp only [pay1_ld]
  refine (runMax_eq_fold 95 _ _ fun k => ?_).symm
  unfold laneR
  rw [dif_pos (by omega)]

variable (m : (ℓ : Loc nD τ sig) → Buf (Elt Ideal) ℓ)

/-- The four arguments as the arrays the formulas read. -/
def aX (c : Dev nD) (r : Fin 576) (k : Fin 4096) : EReal := (m ((c : Thread nD τ).loc main_arg0) : Vec Ideal S576x4096 .bf16) (ix2 r k)
def aXS (c : Dev nD) (r : Fin 576) : EReal :=
  (m ((c : Thread nD τ).loc main_arg1) : Vec Ideal S12x48 .f32) (ix2 ⟨r.val / 48, by omega⟩ ⟨r.val % 48, Nat.mod_lt _ (by decide)⟩)
def aS (c : Dev nD) (g : Fin 2) (n : Fin 12288) : EReal := (m ((c : Thread nD τ).loc main_arg2) : Vec Ideal S2x12288 .f32) (ix2 g n)
def aW (c : Dev nD) (g : Fin 2) (k : Fin 4096) (n : Fin 12288) : BitVec 8 :=
  (m ((c : Thread nD τ).loc main_arg3) : Vec Ideal S2x4096x12288 .i8) (ix3 g k n)

/-- The activation the reference computes. -/
def aAct (c : Dev nD) : Fin 576 → Fin 12288 → EReal := act (aX m c) (aXS m c) (aS m c) (aW m c)

theorem ix0 : ∀ t : Fin cfg0.N, win0_0.index t = ![0, 0] := (by decide +kernel : ∀ t : Fin grid0.N, _)
theorem ix1 : ∀ t : Fin cfg0.N, win0_1.index t = ![0, 0] := (by decide +kernel : ∀ t : Fin grid0.N, _)
theorem ixs2 : ∀ t : Fin cfg0.N, win0_2.index t = ![0, 0] := (by decide +kernel : ∀ t : Fin grid0.N, _)
theorem ixs3 : ∀ t : Fin cfg0.N, win0_3.index t = ![0, 0, 0] := (by decide +kernel : ∀ t : Fin grid0.N, _)
theorem ixs4 : ∀ t : Fin cfg0.N, win0_4.index t = ![0, 0] := (by decide +kernel : ∀ t : Fin grid0.N, _)
theorem ixs5 : ∀ t : Fin cfg0.N, win0_5.index t = ![0, 0] := (by decide +kernel : ∀ t : Fin grid0.N, _)

theorem blk0 (c : Dev nD) (t : Fin cfg0.N) (r : Fin 576) (k : Fin 4096) :
    (iblk m c 0 t : Vec Ideal S576x4096 .bf16) (ix2 r k) = aX m c r k := by
  have e := ix0 t
  unfold aX
  rw [← V_main_arg0 m c]
  blk_simp [iblk, e]
  refine congrArg (V m c main_arg0) ?_
  blk_ext [e]

theorem V_xs (c : Dev nD) : (V m c main_v0 : Vec Ideal S576x1 .f32)
    = shapeCast S576x1 (m ((c : Thread nD τ).loc main_arg1) : Vec Ideal S12x48 .f32) shapeCasts_S12x48_S576x1 := by
  show StableHlo.after hostOps0 (fun b => m (c, b)) (Proc.devRef .tc main_v0) = _
  after_results
  rfl

theorem blk1 (c : Dev nD) (t : Fin cfg0.N) (r : Fin 576) :
    (iblk m c 1 t : Vec Ideal S576x1 .f32) (ix2 r 0) = aXS m c r := by
  have e := ix1 t
  have e' : (V m c main_v0 : Vec Ideal S576x1 .f32) (ix2 r 0) = aXS m c r := by
    rw [V_xs]
    unfold aXS
    pointwise
  rw [← e']
  blk_simp [iblk, e]
  refine congrArg (V m c main_v0) ?_
  blk_ext [e]

theorem blk2 (c : Dev nD) (t : Fin cfg0.N) (g : Fin 2) (n : Fin 12288) :
    (iblk m c 2 t : Vec Ideal S2x12288 .f32) (ix2 g n) = aS m c g n := by
  have e := ixs2 t
  unfold aS
  rw [← V_main_arg2 m c]
  blk_simp [iblk, e]
  refine congrArg (V m c main_arg2) ?_
  blk_ext [e]

theorem blk3 (c : Dev nD) (t : Fin cfg0.N) (g : Fin 2) (k : Fin 4096) (n : Fin 12288) :
    (iblk m c 3 t : Vec Ideal S2x4096x12288 .i8) (ix3 g k n) = aW m c g k n := by
  have e := ixs3 t
  unfold aW
  rw [← V_main_arg3 m c]
  blk_simp [iblk, e]
  refine congrArg (V m c main_arg3) ?_
  blk_ext [e]

theorem rAct_eq (c : Dev nD) (t : Fin cfg0.N) : rAct (iblk m c 0 t) (iblk m c 1 t) (iblk m c 2 t) (iblk m c 3 t) = aAct m c := by
  unfold rAct aAct
  have h0 := fun r k => blk0 m c t r k
  have h1 := fun r => blk1 m c t r
  have h2 := fun g n => blk2 m c t g n
  have h3 := fun g k n => blk3 m c t g k n
  simp only [h0, h1, h2, h3]

/-- The two results, as arrays. -/
def actR (A : Fin 576 → Fin 12288 → EReal) : Vec Ideal S576x12288 .f32 := fun i => A (i 0) (i 1)
def amaxR (A : Fin 576 → Fin 12288 → EReal) : Vec Ideal S576x128 .f32 := fun i => runMax (laneR A (i 0) (i 1)) 96

theorem out4_eq (c : Dev nD) (t : Fin cfg0.N) :
    out0_4 (iblk m c 0 t) (iblk m c 1 t) (iblk m c 2 t) (iblk m c 3 t) = actR (aAct m c) := by
  rw [← rAct_eq m c t]
  funext y
  obtain ⟨r, l, rfl⟩ : ∃ (r : Fin 576) (l : Fin 12288), y = ix2 r l := ⟨y 0, y 1, eq_ix2 y⟩
  exact out4_apply _ _ _ _ r l

theorem out5_eq (c : Dev nD) (t : Fin cfg0.N) :
    out0_5 (iblk m c 0 t) (iblk m c 1 t) (iblk m c 2 t) (iblk m c 3 t) = amaxR (aAct m c) := by
  rw [← rAct_eq m c t]
  funext y
  obtain ⟨r, l, rfl⟩ : ∃ (r : Fin 576) (l : Fin 128), y = ix2 r l := ⟨y 0, y 1, eq_ix2 y⟩
  exact out5_apply _ _ _ _ r l

/-- The activation array after the run. -/
theorem act_final (c : Dev nD) : (dats m 0 c).arrAt 4 cfg0.N = actR (aAct m c) := by
  refine (dats m 0 c).arrAt_eq_of_covers 4 _ (by decide +kernel) fun t hf y => ?_
  have e := ixs4 t
  rw [after0_4, out4_eq]
  refine congrArg (actR (aAct m c)) ?_
  blk_ext [e]

/-- The lane maxima after the run. -/
theorem amax_final (c : Dev nD) : (dats m 0 c).arrAt 5 cfg0.N = amaxR (aAct m c) := by
  refine (dats m 0 c).arrAt_eq_of_covers 5 _ (by decide +kernel) fun t hf y => ?_
  have e := ixs5 t
  rw [after0_5, out5_eq]
  refine congrArg (amaxR (aAct m c)) ?_
  blk_ext [e]

end Cert.RGuIdeal.Hand

end
-- ==== Proof.GuClaim.lean ====
/-
  The gate-up call against its reference: the frames, and the equality of the activation and of the lane maxima.
-/
module

public import proofs.«01_k».proof.Defs
public import proofs.«01_k».proof.Proof.Gen.KGu.Frame
public import proofs.«01_k».proof.Proof.GuFold
public import proofs.«01_k».proof.Proof.GuRef

@[expose] public section

set_option maxRecDepth 16384

noncomputable section

open Idealize.ShloMosaic Idealize.ShloMosaic.TcCoe Idealize.SL.Sem

namespace Cert.Proof.Gu

theorem frame_k : Cert.quiescent_KGu := fun m ρ _ => Cert.KGu.Gen.frame m ρ
theorem frame_ki : Cert.quiescent_KGuIdeal := fun m ρ _ => Cert.KGuIdeal.Gen.frame m ρ
theorem frame_ri : Cert.quiescent_RGuIdeal := fun m ρ _ => Cert.RGuIdeal.Gen.frame m ρ

/-- From memories that agree on the arguments, the two activations are one function. -/
theorem aAct_eq (m : (ℓ : Loc Cert.KGuIdeal.nD Cert.KGuIdeal.τ Cert.KGuIdeal.sig) → Buf (Elt Ideal) ℓ)
    (m' : (ℓ : Loc Cert.RGuIdeal.nD Cert.RGuIdeal.τ Cert.RGuIdeal.sig) → Buf (Elt Ideal) ℓ) (c : Dev Cert.KGuIdeal.nD)
    (h0 : m' ((c.tc : Thread Cert.RGuIdeal.nD Cert.RGuIdeal.τ).loc Cert.RGuIdeal.main_arg0) = m ((c.tc : Thread Cert.KGuIdeal.nD Cert.KGuIdeal.τ).loc Cert.KGuIdeal.main_arg0))
    (h1 : m' ((c.tc : Thread Cert.RGuIdeal.nD Cert.RGuIdeal.τ).loc Cert.RGuIdeal.main_arg1) = m ((c.tc : Thread Cert.KGuIdeal.nD Cert.KGuIdeal.τ).loc Cert.KGuIdeal.main_arg1))
    (h2 : m' ((c.tc : Thread Cert.RGuIdeal.nD Cert.RGuIdeal.τ).loc Cert.RGuIdeal.main_arg2) = m ((c.tc : Thread Cert.KGuIdeal.nD Cert.KGuIdeal.τ).loc Cert.KGuIdeal.main_arg2))
    (h3 : m' ((c.tc : Thread Cert.RGuIdeal.nD Cert.RGuIdeal.τ).loc Cert.RGuIdeal.main_arg3) = m ((c.tc : Thread Cert.KGuIdeal.nD Cert.KGuIdeal.τ).loc Cert.KGuIdeal.main_arg3)) :
    Cert.RGuIdeal.Hand.aAct m' c = Cert.KGuIdeal.Hand.aAct m c := by
  have e0 : Cert.RGuIdeal.Hand.aX m' c = Cert.KGuIdeal.Hand.aX m c := by
    funext r k; exact congrFun h0 (ix2 r k)
  have e1 : Cert.RGuIdeal.Hand.aXS m' c = Cert.KGuIdeal.Hand.aXS m c := by
    funext r; exact congrFun h1 (ix2 _ _)
  have e2 : Cert.RGuIdeal.Hand.aS m' c = Cert.KGuIdeal.Hand.aS m c := by
    funext g n; exact congrFun h2 (ix2 g n)
  have e3 : Cert.RGuIdeal.Hand.aW m' c = Cert.KGuIdeal.Hand.aW m c := by
    funext g k n; exact congrFun h3 (ix3 g k n)
  unfold Cert.RGuIdeal.Hand.aAct Cert.KGuIdeal.Hand.aAct
  rw [e0, e1, e2, e3]

theorem algebraic : Cert.algebraic_KGuIdeal_RGuIdeal := by
  intro m ρ m' ρ' _ hagree
  refine ⟨fun c => Cert.RGuIdeal.Hand.actR (Cert.KGuIdeal.Hand.aAct m c), fun c => Cert.RGuIdeal.Hand.amaxR (Cert.KGuIdeal.Hand.aAct m c), ?_, ?_⟩
  · refine (θ_run Cert.KGuIdeal.defs _ _).mono (fun _ h c => ?_) (Cert.KGuIdeal.Value.run_blocks (F := Ideal) m ρ)
    obtain ⟨h5, h6, hk⟩ := h c
    exact ⟨h5.trans (Cert.KGuIdeal.Hand.act_final m c), h6.trans (Cert.KGuIdeal.Hand.amax_final m c), hk⟩
  · refine (θ_run Cert.RGuIdeal.defs _ _).mono (fun _ h c => ?_) (Cert.RGuIdeal.Value.run_blocks (F := Ideal) m' ρ')
    obtain ⟨h5, h6, hk⟩ := h c
    obtain ⟨a0, a1, a2, a3⟩ := hagree c
    have e := aAct_eq m m' c a0 a1 a2 a3
    refine ⟨(h5.trans (Cert.RGuIdeal.Hand.act_final m' c)).trans ?_, (h6.trans (Cert.RGuIdeal.Hand.amax_final m' c)).trans ?_, hk⟩
    · exact congrArg _ e
    · exact congrArg _ e

end Cert.Proof.Gu

end
-- ==== Proof.DownKRuns.lean ====
module

public import proofs.«01_k».proof.Proof.Gen.KDown.Frame
public import proofs.«01_k».proof.Proof.Gen.KDown.Skeleton
public import proofs.«01_k».proof.Proof.Gen.KDown.Loops

/-! What the runs of the down projection share: the branch conditions in closed form, the points where an output is idle, the staging memrefs. -/

@[expose] public section

set_option maxRecDepth 16384

noncomputable section

namespace Cert.KDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- At the first point output 7 is live: the scales are stored there. -/
theorem liveAt0_7_A : ∀ t : Fin cfg0.N, cond0_0 (grid0.coords t) → cfg0.idle 7 (grid0.coords t) = false := by decide +kernel
/-- At the later points output 7 is idle: nothing is stored into it. -/
theorem idleAt0_7 : ∀ t : Fin cfg0.N, ¬cond0_0 (grid0.coords t) → cfg0.idle 7 (grid0.coords t) = true := by decide +kernel
/-- Before the last point output 7 is not written back. -/
theorem noFlush0_7 : ∀ t : Fin cfg0.N, ¬cond0_1 (grid0.coords t) → (cfg0.win 7).flush t = false := by decide +kernel
/-- At the last point output 7 is written back. -/
theorem flush0_7_C : ∀ t : Fin cfg0.N, cond0_1 (grid0.coords t) → (cfg0.win 7).flush t = true := by decide +kernel
/-- Output 7 is never fetched. -/
theorem noFetch0_7 : ∀ t : Fin cfg0.N, (cfg0.win 7).fetch t = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S576x4096 .bf16 := (Memref.whole cc0_stg5_0 : Memref sig .tc .vmem S576x4096 .bf16).view
/-- One staging buffer of output window 6, through which its contents are stated (`View.read_writes_of_cover`: the
    choice does not matter). -/
abbrev VO0_6 : View sig .tc .vmem S576x1024 .i8 := (Memref.whole cc0_stg6_0 : Memref sig .tc .vmem S576x1024 .i8).view
/-- One staging buffer of output window 7, through which its contents are stated (`View.read_writes_of_cover`: the
    choice does not matter). -/
abbrev VO0_7 : View sig .tc .vmem S12x48 .f32 := (Memref.whole cc0_stg7_0 : Memref sig .tc .vmem S12x48 .f32).view
/-- Each window's current staging memref at point `t`, spelled as the pipeline passes it (`bodyAt0`), and its wholeness. -/
abbrev ms0_0 (t : Fin cfg0.N) : Memref sig .tc .vmem S576x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S576x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S576x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S576x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S576x1024 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x48 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S576x4096 .f32 := Memref.whole cc0_scratch0
abbrev scM0_1 : Memref sig .tc .vmem S576x128 .f32 := Memref.whole cc0_scratch1
abbrev scM0_2 : Memref sig .tc .vmem S576x128 .f32 := Memref.whole cc0_scratch2
/-- The scratch `arg9` the kernel carries between points, as a view: what it holds is stated through it. -/
abbrev VS0_0 : View sig .tc .vmem S576x4096 .f32 := scM0_0.view
/-- The scratch `arg10` the kernel carries between points, as a view: what it holds is stated through it. -/
abbrev VS0_1 : View sig .tc .vmem S576x128 .f32 := scM0_1.view
/-- The scratch `arg11` the kernel carries between points, as a view: what it holds is stated through it. -/
abbrev VS0_2 : View sig .tc .vmem S576x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KDown.Gen

end
-- ==== Proof.DownKRunA.lean ====
module

public import proofs.«01_k».proof.Proof.DownKRuns

/-! The run of the down projection in case A. -/

@[expose] public section

set_option maxRecDepth 16384

noncomputable section

namespace Cert.KDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body stores in case A, with the proof that the body runs to its continuation with them written. -/
noncomputable def kernelRun0_A (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) :
    Σ' (L5 : List (View.Piece (Elt F) S576x4096 .bf16)), Σ' (L6 : List (View.Piece (Elt F) S576x1024 .i8)), Σ' (L7 : List (View.Piece (Elt F) S12x48 .f32)), Σ' (LS0 : List (View.Piece (Elt F) S576x4096 .f32)), Σ' (LS1 : List (View.Piece (Elt F) S576x128 .f32)), { LS2 : List (View.Piece (Elt F) S576x128 .f32) //
      ∀ (xi5 : Vec F S576x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨[], ?_, ?_, ?_, ?_, ?_, fun xi5 E K => ?run⟩
  case run =>
    simp only [cc0_down_eq_skeleton]; unfold cc0_down_skel
    simp only [k0_part3_eq_skeleton, k0_part1_eq_skeleton, k0_part2_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    iexists _; iexact HS2

end Cert.KDown.Gen

end
-- ==== Proof.DownKRunB.lean ====
module

public import proofs.«01_k».proof.Proof.DownKRunA

/-! The run of the down projection in case B. -/

@[expose] public section

set_option maxRecDepth 16384

noncomputable section

namespace Cert.KDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The pieces the body stores in case B, with the proof that the body runs to its continuation with them written. -/
noncomputable def kernelRun0_B (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) :
    Σ' (L5 : List (View.Piece (Elt F) S576x4096 .bf16)), Σ' (L6 : List (View.Piece (Elt F) S576x1024 .i8)), Σ' (L7 : List (View.Piece (Elt F) S12x48 .f32)), Σ' (LS0 : List (View.Piece (Elt F) S576x4096 .f32)), Σ' (LS1 : List (View.Piece (Elt F) S576x128 .f32)), { LS2 : List (View.Piece (Elt F) S576x128 .f32) //
      ∀ (xi5 : Vec F S576x4096 .bf16) (xi7 : Vec F S12x48 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0) ∗ owns (c : Thread nD τ) arg10 fullShare xs1 ∗ owns (c : Thread nD τ) arg11 fullShare xs2) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨[], ?_, [], ?_, [], [], fun xi5 xi7 E K => ?run⟩
  case run =>
    simp only [cc0_down_eq_skeleton]; unfold cc0_down_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [HS0]; · iexists _; iexact HS0
    isplitl [HS1]
    · iexists _; isplitr; · ipureintro; exact harg10.read_unread _
      iexact HS1
    iexists _; isplitr; · ipureintro; exact harg11.read_unread _
    iexact HS2

end Cert.KDown.Gen

end
-- ==== Proof.DownKRunC.lean ====
module

public import proofs.«01_k».proof.Proof.DownKRunB

/-! The run of the down projection in case C. -/

@[expose] public section

set_option maxRecDepth 16384

noncomputable section

namespace Cert.KDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The pieces the body stores in case C, with the proof that the body runs to its continuation with them written. -/
noncomputable def kernelRun0_C (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) :
    Σ' (L5 : List (View.Piece (Elt F) S576x4096 .bf16)), Σ' (L6 : List (View.Piece (Elt F) S576x1024 .i8)), Σ' (L7 : List (View.Piece (Elt F) S12x48 .f32)), Σ' (LS0 : List (View.Piece (Elt F) S576x4096 .f32)), Σ' (LS1 : List (View.Piece (Elt F) S576x128 .f32)), { LS2 : List (View.Piece (Elt F) S576x128 .f32) //
      ∀ (xi7 : Vec F S12x48 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0) ∗ owns (c : Thread nD τ) arg10 fullShare xs1 ∗ owns (c : Thread nD τ) arg11 fullShare xs2) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨?_, ?_, [], ?_, [], [], fun xi7 E K => ?run⟩
  case run =>
    simp only [cc0_down_eq_skeleton]; unfold cc0_down_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [HS0]; · iexists _; iexact HS0
    isplitl [HS1]
    · iexists _; isplitr; · ipureintro; exact harg10.read_unread _
      iexact HS1
    iexists _; isplitr; · ipureintro; exact harg11.read_unread _
    iexact HS2

end Cert.KDown.Gen

end
-- ==== Proof.DownKFrame.lean ====
module

public import proofs.«01_k».proof.Proof.DownKRunC
public import Idealize.ShloMosaic.Lib.Claim

/-! What the outputs and the carried scratch hold point by point, the proof data, the body obligation, the run and the frame of the down projection. The scales are stored at the first point alone and written back at the last: between, their buffer keeps what the first point left. -/

@[expose] public section

set_option maxRecDepth 16384

noncomputable section

namespace Cert.KDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x4096 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).1)

/-- Case A's pieces for output 6 tile its block (8 stores of `S576x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x1024.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.1 S576x128.size (by sl_kernel_rfl) y

/-- What case A leaves in output 6's staging buffer: its pieces read back over junk. -/
def out0_A_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x1024 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.1)

/-- Case A's pieces for output 7 tile its block (12 stores of `S1x48`, checked by the kernel's evaluation: Lib/Ring.lean `Piece.tiledL`, linear in the pieces, through a loop's `@[irreducible]` trip theorem too), so they cover it. -/
theorem cover0_A_7 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S12x48.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.1 S1x48.size (by sl_kernel_rfl) y

/-- What case A leaves in output 7's staging buffer: its pieces read back over junk. -/
def out0_A_7 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S12x48 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.1)

/-- Case A's pieces for scratch `arg9`, which the kernel carries between points, cover it: one of them a store of the WHOLE buffer (Lib/Ring.lean `sl_whole_mem`). -/
theorem scover0_A_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x4096.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.1 (by sl_whole_mem) y

/-- What case A leaves in scratch `arg9`: its pieces read back over junk. -/
def sout0_A_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x4096 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.1)

/-- Case A's pieces for scratch `arg10`, which the kernel carries between points, cover it: 1 piece of `S576x128` tiling it (Lib/Ring.lean `Piece.tiledL`). -/
theorem scover0_A_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.1 S576x128.size (by sl_kernel_rfl) y

/-- What case A leaves in scratch `arg10`: its pieces read back over junk. -/
def sout0_A_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.1)

/-- Case A's pieces for scratch `arg11`, which the kernel carries between points, cover it: 1 piece of `S576x128` tiling it (Lib/Ring.lean `Piece.tiledL`). -/
theorem scover0_A_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1 S576x128.size (by sl_kernel_rfl) y

/-- What case A leaves in scratch `arg11`: its pieces read back over junk. -/
def sout0_A_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1)

/-- Case B's pieces for output 6 tile its block (8 stores of `S576x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x1024.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1 S576x128.size (by sl_kernel_rfl) y

/-- What case B leaves in output 6's staging buffer: its pieces read back over junk. -/
def out0_B_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x1024 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1)

/-- Case B's pieces for scratch `arg9`, which the kernel carries between points, cover it: 8 pieces of `S576x512` tiling it (Lib/Ring.lean `Piece.tiledL`). -/
theorem scover0_B_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x4096.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1 S576x512.size (by sl_kernel_rfl) y

/-- What case B leaves in scratch `arg9`: its pieces read back over junk. -/
def sout0_B_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- Case B stores nothing into scratch `arg10`: it holds what the point before left. -/
def sout0_B_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs1

/-- Case B stores nothing into scratch `arg11`: it holds what the point before left. -/
def sout0_B_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs2

/-- Case C's pieces for output 5 tile its block (36 stores of `S16x4096`, checked by the kernel's evaluation: Lib/Ring.lean `Piece.tiledL`, linear in the pieces, through a loop's `@[irreducible]` trip theorem too), so they cover it. -/
theorem cover0_C_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x4096.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1 S16x4096.size (by sl_kernel_rfl) y

/-- What case C leaves in output 5's staging buffer: its pieces read back over junk. -/
def out0_C_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1)

/-- Case C's pieces for output 6 tile its block (8 stores of `S576x128`, checked by the kernel's evaluation: Lib/Ring.lean `Piece.tiledL`, linear in the pieces, through a loop's `@[irreducible]` trip theorem too), so they cover it. -/
theorem cover0_C_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x1024.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1 S576x128.size (by sl_kernel_rfl) y

/-- What case C leaves in output 6's staging buffer: its pieces read back over junk. -/
def out0_C_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x1024 .i8 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1)

/-- Case C's pieces for scratch `arg9`, which the kernel carries between points, cover it: 8 pieces of `S576x512` tiling it (Lib/Ring.lean `Piece.tiledL`). -/
theorem scover0_C_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x4096.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1 S576x512.size (by sl_kernel_rfl) y

/-- What case C leaves in scratch `arg9`: its pieces read back over junk. -/
def sout0_C_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- Case C stores nothing into scratch `arg10`: it holds what the point before left. -/
def sout0_C_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs1

/-- Case C stores nothing into scratch `arg11`: it holds what the point before left. -/
def sout0_C_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S576x4096 .bf16 × Vec F S576x1024 .i8 × Vec F S12x48 .f32 × Vec F S576x4096 .f32 × Vec F S576x128 .f32 × Vec F S576x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 12 = 0 then
      if h1 : (n + 1) % 12 = 11 then
        False.elim (by have hN : n + 1 < 12 := lt_of_lt_of_eq hn (show cfg0.N = 12 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 12 = 11 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 12 = 0) (h1 : ¬t.val % 12 = 11) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : ¬t.val % 12 = 11) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 12 = 0) (h1 : t.val % 12 = 11) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first point output 7's buffer holds what the first point stored: what `outsAt0` carries. -/
theorem before0_7 (c : Dev nD) (d) : ∀ (n : ℕ) (hn : n + 1 < cfg0.N),
    (dats m 0 c).before 7 ⟨n + 1, hn⟩ d = (outsAt0 m c n (Nat.lt_of_succ_lt hn)).2.2.1
  | 0, hn => by
    rw [Dat.before_of_pos _ 7 ⟨1, hn⟩ (Nat.succ_ne_zero 0) (noFetch0_7 _)]
    rw [if_neg (by rw [noFlush0_7 _ (fun h => absurd ((hcond0_1 _).mp h) (by dsimp only; omega))]; decide)]
    unfold Dat.left
    rw [liveAt0_7_A _ ((hcond0_0 _).mpr rfl)]
    exact after0_7 m c _
  | n + 1, hn => by
    have hN : n + 1 + 1 < 12 := lt_of_lt_of_eq hn (show cfg0.N = 12 from N_0)
    have h0 : ¬(n + 1) % 12 = 0 := by omega
    have h1 : ¬(n + 1) % 12 = 11 := by omega
    rw [Dat.before_of_pos _ 7 ⟨n + 1 + 1, hn⟩ (Nat.succ_ne_zero _) (noFetch0_7 _)]
    rw [if_neg (by rw [noFlush0_7 _ (fun h => h1 ((hcond0_1 _).mp h))]; decide)]
    unfold Dat.left
    rw [idleAt0_7 _ (fun h => h0 ((hcond0_0 _).mp h))]
    refine (before0_7 c d n (Nat.lt_of_succ_lt hn)).trans ?_
    rw [outsAt0_B m c ⟨n + 1, Nat.lt_of_succ_lt hn⟩ h0 h1]
    rfl

/-- The same at a point that is not the first. -/
theorem before0_7_pos (c : Dev nD) (t : Fin cfg0.N) (h : t.val ≠ 0) (d) :
    (dats m 0 c).before 7 t d = (outsAt0 m c (t.val - 1) (Nat.lt_of_le_of_lt (Nat.sub_le _ _) t.isLt)).2.2.1 := by
  obtain ⟨n, hn⟩ := t
  cases n with
  | zero => exact absurd rfl h
  | succ n => exact before0_7 m c d n hn

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  by_cases h0 : t.val % 12 = 0
  · by_cases h1 : t.val % 12 = 11
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_A t ((hcond0_0 t).mpr h0)], after0_7]
      by_cases hz : t.val = 0
      · rw [PhiS_castSucc m c t, PhiS_zero m c _ _ hz, PhiA0_eq]
        rw [outsAt0_A m c t h0 h1]
        unfold out0_A_6 out0_A_7 sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      · exfalso; have hN : t.val < 12 := lt_of_lt_of_eq t.isLt (show cfg0.N = 12 from N_0); omega
  · by_cases h1 : t.val % 12 = 11
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [idleAt0_7 t (fun h => h0 ((hcond0_0 t).mp h)), flush0_7_C t ((hcond0_1 t).mpr h1)], after0_7]
      by_cases hz : t.val = 0
      · exfalso; have hN : t.val < 12 := lt_of_lt_of_eq t.isLt (show cfg0.N = 12 from N_0); omega
      · rw [PhiS_castSucc m c t, PhiS_pos m c _ _ hz]
        rw [outsAt0_C m c t h0 h1]
        simp only [before0_7_pos m c t hz]
        unfold out0_C_5 out0_C_6 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexact HS0
        isplitl [HS1]; · iexact HS1
        isplitl [HS2]; · iexact HS2
        iintro ⟨H0, H1, H2, H3, H4, ⟨%e5, H5⟩, ⟨%e6, H6⟩, H7, ⟨%es0, HS0⟩, HS1, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7 t (fun h => h0 ((hcond0_0 t).mp h))) (noFlush0_7 t (fun h => h1 ((hcond0_1 t).mp h)))]
      by_cases hz : t.val = 0
      · exfalso; have hN : t.val < 12 := lt_of_lt_of_eq t.isLt (show cfg0.N = 12 from N_0); omega
      · rw [PhiS_castSucc m c t, PhiS_pos m c _ _ hz]
        rw [outsAt0_B m c t h0 h1]
        unfold out0_B_6 sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        iintro ⟨H0, H1, H2, H3, H4, H5, ⟨%e6, H6⟩, H7, ⟨%es0, HS0⟩, HS1, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _)
        iexists d7; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 12 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KDown`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KDown.Gen

end
-- ==== Proof.DownIRuns.lean ====
module

public import proofs.«01_k».proof.Proof.Gen.KDownIdeal.Frame
public import proofs.«01_k».proof.Proof.Gen.KDownIdeal.Skeleton
public import proofs.«01_k».proof.Proof.Gen.KDownIdeal.Loops

/-! What the runs of the down projection share: the branch conditions in closed form, the points where an output is idle, the staging memrefs. -/

@[expose] public section

set_option maxRecDepth 16384

noncomputable section

namespace Cert.KDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- At the first point output 7 is live: the scales are stored there. -/
theorem liveAt0_7_A : ∀ t : Fin cfg0.N, cond0_0 (grid0.coords t) → cfg0.idle 7 (grid0.coords t) = false := by decide +kernel
/-- At the later points output 7 is idle: nothing is stored into it. -/
theorem idleAt0_7 : ∀ t : Fin cfg0.N, ¬cond0_0 (grid0.coords t) → cfg0.idle 7 (grid0.coords t) = true := by decide +kernel
/-- Before the last point output 7 is not written back. -/
theorem noFlush0_7 : ∀ t : Fin cfg0.N, ¬cond0_1 (grid0.coords t) → (cfg0.win 7).flush t = false := by decide +kernel
/-- At the last point output 7 is written back. -/
theorem flush0_7_C : ∀ t : Fin cfg0.N, cond0_1 (grid0.coords t) → (cfg0.win 7).flush t = true := by decide +kernel
/-- Output 7 is never fetched. -/
theorem noFetch0_7 : ∀ t : Fin cfg0.N, (cfg0.win 7).fetch t = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S576x4096 .bf16 := (Memref.whole cc0_stg5_0 : Memref sig .tc .vmem S576x4096 .bf16).view
/-- One staging buffer of output window 6, through which its contents are stated (`View.read_writes_of_cover`: the
    choice does not matter). -/
abbrev VO0_6 : View sig .tc .vmem S576x1024 .i8 := (Memref.whole cc0_stg6_0 : Memref sig .tc .vmem S576x1024 .i8).view
/-- One staging buffer of output window 7, through which its contents are stated (`View.read_writes_of_cover`: the
    choice does not matter). -/
abbrev VO0_7 : View sig .tc .vmem S12x48 .f32 := (Memref.whole cc0_stg7_0 : Memref sig .tc .vmem S12x48 .f32).view
/-- Each window's current staging memref at point `t`, spelled as the pipeline passes it (`bodyAt0`), and its wholeness. -/
abbrev ms0_0 (t : Fin cfg0.N) : Memref sig .tc .vmem S576x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S576x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S576x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S576x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S576x1024 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x48 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S576x4096 .f32 := Memref.whole cc0_scratch0
abbrev scM0_1 : Memref sig .tc .vmem S576x128 .f32 := Memref.whole cc0_scratch1
abbrev scM0_2 : Memref sig .tc .vmem S576x128 .f32 := Memref.whole cc0_scratch2
/-- The scratch `arg9` the kernel carries between points, as a view: what it holds is stated through it. -/
abbrev VS0_0 : View sig .tc .vmem S576x4096 .f32 := scM0_0.view
/-- The scratch `arg10` the kernel carries between points, as a view: what it holds is stated through it. -/
abbrev VS0_1 : View sig .tc .vmem S576x128 .f32 := scM0_1.view
/-- The scratch `arg11` the kernel carries between points, as a view: what it holds is stated through it. -/
abbrev VS0_2 : View sig .tc .vmem S576x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KDownIdeal.Gen

end
-- ==== Proof.DownIRunA.lean ====
module

public import proofs.«01_k».proof.Proof.DownIRuns

/-! The run of the down projection in case A. -/

@[expose] public section

set_option maxRecDepth 16384

noncomputable section

namespace Cert.KDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body stores in case A, with the proof that the body runs to its continuation with them written. -/
noncomputable def kernelRun0_A (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) :
    Σ' (L5 : List (View.Piece (Elt F) S576x4096 .bf16)), Σ' (L6 : List (View.Piece (Elt F) S576x1024 .i8)), Σ' (L7 : List (View.Piece (Elt F) S12x48 .f32)), Σ' (LS0 : List (View.Piece (Elt F) S576x4096 .f32)), Σ' (LS1 : List (View.Piece (Elt F) S576x128 .f32)), { LS2 : List (View.Piece (Elt F) S576x128 .f32) //
      ∀ (xi5 : Vec F S576x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨[], ?_, ?_, ?_, ?_, ?_, fun xi5 E K => ?run⟩
  case run =>
    simp only [cc0_down_eq_skeleton]; unfold cc0_down_skel
    simp only [k0_part3_eq_skeleton, k0_part1_eq_skeleton, k0_part2_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    iexists _; iexact HS2

end Cert.KDownIdeal.Gen

end
-- ==== Proof.DownIRunB.lean ====
module

public import proofs.«01_k».proof.Proof.DownIRunA

/-! The run of the down projection in case B. -/

@[expose] public section

set_option maxRecDepth 16384

noncomputable section

namespace Cert.KDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The pieces the body stores in case B, with the proof that the body runs to its continuation with them written. -/
noncomputable def kernelRun0_B (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) :
    Σ' (L5 : List (View.Piece (Elt F) S576x4096 .bf16)), Σ' (L6 : List (View.Piece (Elt F) S576x1024 .i8)), Σ' (L7 : List (View.Piece (Elt F) S12x48 .f32)), Σ' (LS0 : List (View.Piece (Elt F) S576x4096 .f32)), Σ' (LS1 : List (View.Piece (Elt F) S576x128 .f32)), { LS2 : List (View.Piece (Elt F) S576x128 .f32) //
      ∀ (xi5 : Vec F S576x4096 .bf16) (xi7 : Vec F S12x48 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0) ∗ owns (c : Thread nD τ) arg10 fullShare xs1 ∗ owns (c : Thread nD τ) arg11 fullShare xs2) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨[], ?_, [], ?_, [], [], fun xi5 xi7 E K => ?run⟩
  case run =>
    simp only [cc0_down_eq_skeleton]; unfold cc0_down_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [HS0]; · iexists _; iexact HS0
    isplitl [HS1]
    · iexists _; isplitr; · ipureintro; exact harg10.read_unread _
      iexact HS1
    iexists _; isplitr; · ipureintro; exact harg11.read_unread _
    iexact HS2

end Cert.KDownIdeal.Gen

end
-- ==== Proof.DownIRunC.lean ====
module

public import proofs.«01_k».proof.Proof.DownIRunB

/-! The run of the down projection in case C. -/

@[expose] public section

set_option maxRecDepth 16384

noncomputable section

namespace Cert.KDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The pieces the body stores in case C, with the proof that the body runs to its continuation with them written. -/
noncomputable def kernelRun0_C (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) :
    Σ' (L5 : List (View.Piece (Elt F) S576x4096 .bf16)), Σ' (L6 : List (View.Piece (Elt F) S576x1024 .i8)), Σ' (L7 : List (View.Piece (Elt F) S12x48 .f32)), Σ' (LS0 : List (View.Piece (Elt F) S576x4096 .f32)), Σ' (LS1 : List (View.Piece (Elt F) S576x128 .f32)), { LS2 : List (View.Piece (Elt F) S576x128 .f32) //
      ∀ (xi7 : Vec F S12x48 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0) ∗ owns (c : Thread nD τ) arg10 fullShare xs1 ∗ owns (c : Thread nD τ) arg11 fullShare xs2) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨?_, ?_, [], ?_, [], [], fun xi7 E K => ?run⟩
  case run =>
    simp only [cc0_down_eq_skeleton]; unfold cc0_down_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [HS0]; · iexists _; iexact HS0
    isplitl [HS1]
    · iexists _; isplitr; · ipureintro; exact harg10.read_unread _
      iexact HS1
    iexists _; isplitr; · ipureintro; exact harg11.read_unread _
    iexact HS2

end Cert.KDownIdeal.Gen

end
-- ==== Proof.DownIFrame.lean ====
module

public import proofs.«01_k».proof.Proof.DownIRunC
public import Idealize.ShloMosaic.Lib.Claim

/-! What the outputs and the carried scratch hold point by point, the proof data, the body obligation, the run and the frame of the down projection. The scales are stored at the first point alone and written back at the last: between, their buffer keeps what the first point left. -/

@[expose] public section

set_option maxRecDepth 16384

noncomputable section

namespace Cert.KDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x4096 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).1)

/-- Case A's pieces for output 6 tile its block (8 stores of `S576x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x1024.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.1 S576x128.size (by sl_kernel_rfl) y

/-- What case A leaves in output 6's staging buffer: its pieces read back over junk. -/
def out0_A_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x1024 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.1)

/-- Case A's pieces for output 7 tile its block (12 stores of `S1x48`, checked by the kernel's evaluation: Lib/Ring.lean `Piece.tiledL`, linear in the pieces, through a loop's `@[irreducible]` trip theorem too), so they cover it. -/
theorem cover0_A_7 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S12x48.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.1 S1x48.size (by sl_kernel_rfl) y

/-- What case A leaves in output 7's staging buffer: its pieces read back over junk. -/
def out0_A_7 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S12x48 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.1)

/-- Case A's pieces for scratch `arg9`, which the kernel carries between points, cover it: one of them a store of the WHOLE buffer (Lib/Ring.lean `sl_whole_mem`). -/
theorem scover0_A_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x4096.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.1 (by sl_whole_mem) y

/-- What case A leaves in scratch `arg9`: its pieces read back over junk. -/
def sout0_A_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x4096 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.1)

/-- Case A's pieces for scratch `arg10`, which the kernel carries between points, cover it: 1 piece of `S576x128` tiling it (Lib/Ring.lean `Piece.tiledL`). -/
theorem scover0_A_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.1 S576x128.size (by sl_kernel_rfl) y

/-- What case A leaves in scratch `arg10`: its pieces read back over junk. -/
def sout0_A_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.1)

/-- Case A's pieces for scratch `arg11`, which the kernel carries between points, cover it: 1 piece of `S576x128` tiling it (Lib/Ring.lean `Piece.tiledL`). -/
theorem scover0_A_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) (y : S576x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1 S576x128.size (by sl_kernel_rfl) y

/-- What case A leaves in scratch `arg11`: its pieces read back over junk. -/
def sout0_A_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : cond0_0 i) (hc1 : ¬cond0_1 i)
    (x0 : Vec F S576x1024 .f32) (x1 : Vec F S576x128 .f32) (x2 : Vec F S576x4096 .f32) (x3 : Vec F S1x4096 .f32) (x4 : Vec F S1024x4096 .i8) : Vec F S576x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1)

/-- Case B's pieces for output 6 tile its block (8 stores of `S576x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x1024.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1 S576x128.size (by sl_kernel_rfl) y

/-- What case B leaves in output 6's staging buffer: its pieces read back over junk. -/
def out0_B_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x1024 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1)

/-- Case B's pieces for scratch `arg9`, which the kernel carries between points, cover it: 8 pieces of `S576x512` tiling it (Lib/Ring.lean `Piece.tiledL`). -/
theorem scover0_B_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x4096.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1 S576x512.size (by sl_kernel_rfl) y

/-- What case B leaves in scratch `arg9`: its pieces read back over junk. -/
def sout0_B_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- Case B stores nothing into scratch `arg10`: it holds what the point before left. -/
def sout0_B_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs1

/-- Case B stores nothing into scratch `arg11`: it holds what the point before left. -/
def sout0_B_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : ¬cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs2

/-- Case C's pieces for output 5 tile its block (36 stores of `S16x4096`, checked by the kernel's evaluation: Lib/Ring.lean `Piece.tiledL`, linear in the pieces, through a loop's `@[irreducible]` trip theorem too), so they cover it. -/
theorem cover0_C_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x4096.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1 S16x4096.size (by sl_kernel_rfl) y

/-- What case C leaves in output 5's staging buffer: its pieces read back over junk. -/
def out0_C_5 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).1)

/-- Case C's pieces for output 6 tile its block (8 stores of `S576x128`, checked by the kernel's evaluation: Lib/Ring.lean `Piece.tiledL`, linear in the pieces, through a loop's `@[irreducible]` trip theorem too), so they cover it. -/
theorem cover0_C_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x1024.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1 S576x128.size (by sl_kernel_rfl) y

/-- What case C leaves in output 6's staging buffer: its pieces read back over junk. -/
def out0_C_6 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x1024 .i8 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.1)

/-- Case C's pieces for scratch `arg9`, which the kernel carries between points, cover it: 8 pieces of `S576x512` tiling it (Lib/Ring.lean `Piece.tiledL`). -/
theorem scover0_C_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) (y : S576x4096.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1 S576x512.size (by sl_kernel_rfl) y

/-- What case C leaves in scratch `arg9`: its pieces read back over junk. -/
def sout0_C_0 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x4096 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- Case C stores nothing into scratch `arg10`: it holds what the point before left. -/
def sout0_C_1 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs1

/-- Case C stores nothing into scratch `arg11`: it holds what the point before left. -/
def sout0_C_2 (c : Dev nD) (i : grid0.Coords) (arg1 : Memref sig .tc .vmem S576x1024 .f32) (harg1 : arg1.IsWhole) (arg2 : Memref sig .tc .vmem S576x128 .f32) (harg2 : arg2.IsWhole) (arg3 : Memref sig .tc .vmem S576x4096 .f32) (harg3 : arg3.IsWhole) (arg4 : Memref sig .tc .vmem S1x4096 .f32) (harg4 : arg4.IsWhole) (arg5 : Memref sig .tc .vmem S1024x4096 .i8) (harg5 : arg5.IsWhole) (arg6 : Memref sig .tc .vmem S576x4096 .bf16) (harg6 : arg6.IsWhole) (arg7 : Memref sig .tc .vmem S576x1024 .i8) (harg7 : arg7.IsWhole) (arg8 : Memref sig .tc .vmem S12x48 .f32) (harg8 : arg8.IsWhole) (arg9 : Memref sig .tc .vmem S576x4096 .f32) (harg9 : arg9.IsWhole) (arg10 : Memref sig .tc .vmem S576x128 .f32) (harg10 : arg10.IsWhole) (arg11 : Memref sig .tc .vmem S576x128 .f32) (harg11 : arg11.IsWhole) (hc0 : ¬cond0_0 i) (hc1 : cond0_1 i)
    (x0 : Vec F S576x1024 .f32) (x1 : Vec F S576x128 .f32) (x2 : Vec F S576x4096 .f32) (x3 : Vec F S1x4096 .f32) (x4 : Vec F S1024x4096 .i8) (xs0 : Vec F S576x4096 .f32) (xs1 : Vec F S576x128 .f32) (xs2 : Vec F S576x128 .f32) : Vec F S576x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S576x4096 .bf16 × Vec F S576x1024 .i8 × Vec F S12x48 .f32 × Vec F S576x4096 .f32 × Vec F S576x128 .f32 × Vec F S576x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 12 = 0 then
      if h1 : (n + 1) % 12 = 11 then
        False.elim (by have hN : n + 1 < 12 := lt_of_lt_of_eq hn (show cfg0.N = 12 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 12 = 11 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 12 = 0) (h1 : ¬t.val % 12 = 11) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : ¬t.val % 12 = 11) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 12 = 0) (h1 : t.val % 12 = 11) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first point output 7's buffer holds what the first point stored: what `outsAt0` carries. -/
theorem before0_7 (c : Dev nD) (d) : ∀ (n : ℕ) (hn : n + 1 < cfg0.N),
    (dats m 0 c).before 7 ⟨n + 1, hn⟩ d = (outsAt0 m c n (Nat.lt_of_succ_lt hn)).2.2.1
  | 0, hn => by
    rw [Dat.before_of_pos _ 7 ⟨1, hn⟩ (Nat.succ_ne_zero 0) (noFetch0_7 _)]
    rw [if_neg (by rw [noFlush0_7 _ (fun h => absurd ((hcond0_1 _).mp h) (by dsimp only; omega))]; decide)]
    unfold Dat.left
    rw [liveAt0_7_A _ ((hcond0_0 _).mpr rfl)]
    exact after0_7 m c _
  | n + 1, hn => by
    have hN : n + 1 + 1 < 12 := lt_of_lt_of_eq hn (show cfg0.N = 12 from N_0)
    have h0 : ¬(n + 1) % 12 = 0 := by omega
    have h1 : ¬(n + 1) % 12 = 11 := by omega
    rw [Dat.before_of_pos _ 7 ⟨n + 1 + 1, hn⟩ (Nat.succ_ne_zero _) (noFetch0_7 _)]
    rw [if_neg (by rw [noFlush0_7 _ (fun h => h1 ((hcond0_1 _).mp h))]; decide)]
    unfold Dat.left
    rw [idleAt0_7 _ (fun h => h0 ((hcond0_0 _).mp h))]
    refine (before0_7 c d n (Nat.lt_of_succ_lt hn)).trans ?_
    rw [outsAt0_B m c ⟨n + 1, Nat.lt_of_succ_lt hn⟩ h0 h1]
    rfl

/-- The same at a point that is not the first. -/
theorem before0_7_pos (c : Dev nD) (t : Fin cfg0.N) (h : t.val ≠ 0) (d) :
    (dats m 0 c).before 7 t d = (outsAt0 m c (t.val - 1) (Nat.lt_of_le_of_lt (Nat.sub_le _ _) t.isLt)).2.2.1 := by
  obtain ⟨n, hn⟩ := t
  cases n with
  | zero => exact absurd rfl h
  | succ n => exact before0_7 m c d n hn

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  by_cases h0 : t.val % 12 = 0
  · by_cases h1 : t.val % 12 = 11
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_A t ((hcond0_0 t).mpr h0)], after0_7]
      by_cases hz : t.val = 0
      · rw [PhiS_castSucc m c t, PhiS_zero m c _ _ hz, PhiA0_eq]
        rw [outsAt0_A m c t h0 h1]
        unfold out0_A_6 out0_A_7 sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      · exfalso; have hN : t.val < 12 := lt_of_lt_of_eq t.isLt (show cfg0.N = 12 from N_0); omega
  · by_cases h1 : t.val % 12 = 11
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [idleAt0_7 t (fun h => h0 ((hcond0_0 t).mp h)), flush0_7_C t ((hcond0_1 t).mpr h1)], after0_7]
      by_cases hz : t.val = 0
      · exfalso; have hN : t.val < 12 := lt_of_lt_of_eq t.isLt (show cfg0.N = 12 from N_0); omega
      · rw [PhiS_castSucc m c t, PhiS_pos m c _ _ hz]
        rw [outsAt0_C m c t h0 h1]
        simp only [before0_7_pos m c t hz]
        unfold out0_C_5 out0_C_6 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexact HS0
        isplitl [HS1]; · iexact HS1
        isplitl [HS2]; · iexact HS2
        iintro ⟨H0, H1, H2, H3, H4, ⟨%e5, H5⟩, ⟨%e6, H6⟩, H7, ⟨%es0, HS0⟩, HS1, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7 t (fun h => h0 ((hcond0_0 t).mp h))) (noFlush0_7 t (fun h => h1 ((hcond0_1 t).mp h)))]
      by_cases hz : t.val = 0
      · exfalso; have hN : t.val < 12 := lt_of_lt_of_eq t.isLt (show cfg0.N = 12 from N_0); omega
      · rw [PhiS_castSucc m c t, PhiS_pos m c _ _ hz]
        rw [outsAt0_B m c t h0 h1]
        unfold out0_B_6 sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        iintro ⟨H0, H1, H2, H3, H4, H5, ⟨%e6, H6⟩, H7, ⟨%es0, HS0⟩, HS1, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _)
        iexists d7; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 12 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KDownIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KDownIdeal.Gen

end
-- ==== Proof.DownMath.lean ====
/-
  The down projection as mathematics: the scale of a row, a code, and the code as a number.
-/
module

public import Idealize.ShloMosaic.Lib.Pointwise

@[expose] public section

noncomputable section

open Idealize.ShloMosaic

namespace Cert.Proof.Down

/-- The scale of a row from its largest magnitude. -/
def scaleS (top : EReal) : EReal := if 0 < top then Ideal.div top ((127 : ℝ) : EReal) else 1

/-- A quotient rounded and clipped to the codes' range. -/
def clip (v : EReal) : EReal := min ((127 : ℝ) : EReal) (max ((-127 : ℝ) : EReal) (Ideal.liftRound Ideal.roundHalfEven v))

/-- A code, as stored. -/
def code (v s : EReal) : BitVec 8 := Ideal.fptosi 8 (clip (Ideal.div v s))

theorem c127 : Ideal.ofBits .f32 0x42FE0000#32 = ((127 : ℝ) : EReal) := by
  simp [Ideal.ofBits, Ideal.ieee]; rw [← EReal.coe_mul]; norm_num
theorem cm127 : Ideal.ofBits .f32 0xC2FE0000#32 = ((-127 : ℝ) : EReal) := by
  simp [Ideal.ofBits, Ideal.ieee]; rw [← EReal.coe_mul]; norm_num
theorem cinf : Ideal.ofBits .f32 0xFF800000#32 = ⊥ := by simp [Ideal.ofBits, Ideal.ieee]

theorem scaleS_ne (top : EReal) : scaleS top ≠ 0 := by
  unfold scaleS
  split
  · rename_i h
    rw [Ideal.div_coe (by norm_num)]
    refine (EReal.mul_pos h ?_).ne'
    exact_mod_cast (by norm_num : (0 : ℝ) < 1 / 127)
  · exact one_ne_zero

/-- The product with the reciprocal of a scale is the quotient by it. -/
theorem mul_recip (v s : EReal) (hs : s ≠ 0) : v * Ideal.div 1 s = Ideal.div v s := by
  rw [Ideal.div, Ideal.div, if_neg hs, if_neg hs, one_mul]

/-- A clipped value is an integer of the codes' range. -/
theorem clip_int (v : EReal) : ∃ z : ℤ, -127 ≤ z ∧ z ≤ 127 ∧ clip v = ((z : ℝ) : EReal) := by
  have key : ∀ z : ℤ, ∃ w : ℤ, -127 ≤ w ∧ w ≤ 127 ∧ min ((127 : ℝ) : EReal) (max ((-127 : ℝ) : EReal) ((z : ℝ) : EReal)) = ((w : ℝ) : EReal) := by
    intro z
    refine ⟨min 127 (max (-127) z), by omega, by omega, ?_⟩
    simp only [Int.cast_min, Int.cast_max, Int.cast_neg, Int.cast_ofNat]
    rw [EReal.coe_strictMono.monotone.map_min, EReal.coe_strictMono.monotone.map_max]
  unfold clip
  induction v with
  | bot => exact ⟨-127, by omega, by omega, by
      show min _ (max _ (⊥ : EReal)) = _
      rw [max_bot_right, min_eq_right (EReal.coe_le_coe_iff.2 (by norm_num))]
      norm_num⟩
  | top => exact ⟨127, by omega, by omega, by
      show min _ (max _ (⊤ : EReal)) = _
      rw [max_top_right, min_top_right]
      norm_num⟩
  | coe r => exact key (Ideal.roundHalfEven r)

/-- A stored code, read as a number, is the clipped value it was stored from. -/
theorem code_num (v s : EReal) : (((code v s).toInt : ℝ) : EReal) = clip (Ideal.div v s) := by
  obtain ⟨z, h1, h2, h⟩ := clip_int (Ideal.div v s)
  unfold code
  rw [h]
  refine congrArg (fun n : ℤ => ((n : ℝ) : EReal)) ?_
  have hz : Ideal.toIntClamped (-(2 ^ (8 - 1) : Nat)) ((2 ^ (8 - 1) : Nat) - 1) ((z : ℝ) : EReal) = z := by
    rw [Ideal.toIntClamped_coe]
    simp only [Int.floor_intCast, Int.ceil_intCast, ite_self]
    norm_num
    omega
  unfold Ideal.fptosi
  rw [hz, BitVec.toInt_ofInt]
  simp only [Int.bmod]
  norm_num
  split <;> omega

/-- A partial sum over the first `n` blocks of 1024. -/
def partSum (f : ℕ → EReal) (n : ℕ) : EReal := ∑ k ∈ Finset.range (1024 * n), f k

theorem partSum_zero (f : ℕ → EReal) : partSum f 0 = 0 := by simp [partSum]

theorem partSum_succ (f : ℕ → EReal) (n : ℕ) (g : Fin 1024 → EReal) (h : ∀ k : Fin 1024, g k = f (1024 * n + k.val)) :
    partSum f (n + 1) = partSum f n + ∑ k : Fin 1024, g k := by
  unfold partSum
  rw [show 1024 * (n + 1) = 1024 * n + 1024 from rfl, Finset.sum_range_add]
  congr 1
  rw [Finset.sum_range]
  exact Finset.sum_congr rfl fun k _ => (h k).symm

theorem partSum_all (f : ℕ → EReal) (g : Fin 12288 → EReal) (h : ∀ k : Fin 12288, g k = f k.val) :
    partSum f 12 = ∑ k : Fin 12288, g k := by
  unfold partSum
  rw [show 1024 * 12 = 12288 from rfl, Finset.sum_range]
  exact Finset.sum_congr rfl fun k _ => (h k).symm

end Cert.Proof.Down

end
-- ==== Proof.DownCase.lean ====
module

public import proofs.«01_k».proof.Proof.DownIFrame
public import proofs.«01_k».proof.Proof.DownMath
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KDownIdeal.Hand

open Cert.KDownIdeal Cert.KDownIdeal.Gen Cert.Proof.Down

/-- One entry of a block's codes, as a number: the activation times the reciprocal scale of its row, rounded and clipped. -/
def cB (x0 : Vec Ideal S576x1024 .f32) (inv : Vec Ideal S576x128 .f32) (r : Fin 576) (k : Fin 1024) : EReal :=
  clip (x0 (ix2 r k) * inv (ix2 r ⟨k.val % 128, Nat.mod_lt _ (by decide)⟩))

/-- One strip of the codes. -/
def cS (x y : Vec Ideal S576x128 .f32) (r : Fin 576) (l : Fin 128) : EReal := clip (x (ix2 r l) * y (ix2 r l))

/-- A strip of the activation block, loaded alone. -/
theorem ld_act (v : Vec Ideal S576x1024 .f32) (o : Nat) (inb : ∀ a, (![0, o] : Fin 2 → Nat) a + (![576, 128] : Fin 2 → Nat) a ≤ S576x1024.size a) (r : Fin 576) (l : Fin 128)
    (hl : o + l.val < 1024) :
    View.ld v (Rect.unit ![0, o] ![576, 128] inb) (ix2 r l) = v (ix2 r ⟨o + l.val, hl⟩) :=
  View.ld_unit_apply_of _ _ _ _ _ _ (fun a => by fin_cases a <;> simp)

theorem cS_eq (x0 : Vec Ideal S576x1024 .f32) (inv : Vec Ideal S576x128 .f32) (o : Nat) (ho : o % 128 = 0) (inb : ∀ a, (![0, o] : Fin 2 → Nat) a + (![576, 128] : Fin 2 → Nat) a ≤ S576x1024.size a) (r : Fin 576) (l : Fin 128)
    (k : Fin 1024) (hk : k.val = o + l.val) :
    cS (View.ld x0 (Rect.unit ![0, o] ![576, 128] inb)) inv r l = cB x0 inv r k := by
  obtain ⟨k, hl⟩ := k
  obtain rfl : k = o + l.val := hk
  unfold cS cB
  rw [ld_act _ _ _ _ _ hl]
  refine congrArg (fun z => clip (_ * inv (ix2 r z))) (Fin.ext ?_)
  show l.val = (o + l.val) % 128
  have := l.isLt
  omega

theorem i19 (x y : Vec Ideal S576x128 .f32) (r : Fin 576) (l : Fin 128) : k0_pay19 x y (ix2 r l) = Ideal.fptosi 8 (cS x y r l) := by
  unfold cS
  pointwise [k0_pay19, k0_pay18]
  rw [c127, cm127]
  rfl

theorem i22 (x y : Vec Ideal S576x128 .f32) (r : Fin 576) (l : Fin 128) : k0_pay22 x y (ix2 r l) = Ideal.fptosi 8 (cS x y r l) := by
  unfold cS
  pointwise [k0_pay22, k0_pay21]
  rw [c127, cm127]
  rfl

theorem i27 (x y : Vec Ideal S576x128 .f32) (r : Fin 576) (l : Fin 128) : k0_pay27 (k0_pay24 x y) k0_pay25 (ix2 r l) = Ideal.fptosi 8 (cS x y r l) := by
  unfold cS
  pointwise [k0_pay27, k0_pay26, k0_pay24, k0_pay25]
  rw [c127, cm127]
  rfl

theorem i30 (x y : Vec Ideal S576x128 .f32) (r : Fin 576) (l : Fin 128) : k0_pay30 x y (ix2 r l) = Ideal.fptosi 8 (cS x y r l) := by
  unfold cS
  pointwise [k0_pay30, k0_pay29]
  rw [c127, cm127]
  rfl

theorem i33 (x y : Vec Ideal S576x128 .f32) (r : Fin 576) (l : Fin 128) : k0_pay33 x y (ix2 r l) = Ideal.fptosi 8 (cS x y r l) := by
  unfold cS
  pointwise [k0_pay33, k0_pay32]
  rw [c127, cm127]
  rfl

theorem i38 (x y : Vec Ideal S576x128 .f32) (r : Fin 576) (l : Fin 128) : k0_pay38 (k0_pay35 x y) k0_pay36 (ix2 r l) = Ideal.fptosi 8 (cS x y r l) := by
  unfold cS
  pointwise [k0_pay38, k0_pay37, k0_pay35, k0_pay36]
  rw [c127, cm127]
  rfl

theorem i40 (x y : Vec Ideal S576x128 .f32) (r : Fin 576) (l : Fin 128) : k0_pay40 x y (ix2 r l) = Ideal.fptosi 8 (cS x y r l) := by
  unfold cS
  pointwise [k0_pay40, k0_pay39]
  rw [c127, cm127]
  rfl

theorem i42 (x y : Vec Ideal S576x128 .f32) (r : Fin 576) (l : Fin 128) : k0_pay42 x y (ix2 r l) = Ideal.fptosi 8 (cS x y r l) := by
  unfold cS
  pointwise [k0_pay42, k0_pay41]
  rw [c127, cm127]
  rfl

theorem f20 (x y : Vec Ideal S576x128 .f32) (r : Fin 576) (l : Fin 128) : k0_pay20 x y (ix2 r l) = cS x y r l := by
  unfold cS
  pointwise [k0_pay20, k0_pay18]
  rw [c127, cm127]
  rfl

theorem f23 (x y : Vec Ideal S576x128 .f32) (r : Fin 576) (l : Fin 128) : k0_pay23 x y (ix2 r l) = cS x y r l := by
  unfold cS
  pointwise [k0_pay23, k0_pay21]
  rw [c127, cm127]
  rfl

theorem f28 (x y : Vec Ideal S576x128 .f32) (r : Fin 576) (l : Fin 128) : k0_pay28 (k0_pay24 x y) k0_pay25 (ix2 r l) = cS x y r l := by
  unfold cS
  pointwise [k0_pay28, k0_pay26, k0_pay24, k0_pay25]
  rw [c127, cm127]
  rfl

theorem f31 (x y : Vec Ideal S576x128 .f32) (r : Fin 576) (l : Fin 128) : k0_pay31 x y (ix2 r l) = cS x y r l := by
  unfold cS
  pointwise [k0_pay31, k0_pay29]
  rw [c127, cm127]
  rfl

theorem f34 (x y : Vec Ideal S576x128 .f32) (r : Fin 576) (l : Fin 128) : k0_pay34 x y (ix2 r l) = cS x y r l := by
  unfold cS
  pointwise [k0_pay34, k0_pay32]
  rw [c127, cm127]
  rfl

theorem f37 (x y : Vec Ideal S576x128 .f32) (r : Fin 576) (l : Fin 128) : truncf FTy.bf16 (k0_pay37 (k0_pay35 x y) k0_pay36) bitsLt_bf16_f32 (ix2 r l) = cS x y r l := by
  unfold cS
  pointwise [k0_pay37, k0_pay35, k0_pay36]
  rw [c127, cm127]
  rfl

theorem f39 (x y : Vec Ideal S576x128 .f32) (r : Fin 576) (l : Fin 128) : truncf FTy.bf16 (k0_pay39 x y) bitsLt_bf16_f32 (ix2 r l) = cS x y r l := by
  unfold cS
  pointwise [k0_pay39]
  rw [c127, cm127]
  rfl

theorem f41 (x y : Vec Ideal S576x128 .f32) (r : Fin 576) (l : Fin 128) : truncf FTy.bf16 (k0_pay41 x y) bitsLt_bf16_f32 (ix2 r l) = cS x y r l := by
  unfold cS
  pointwise [k0_pay41]
  rw [c127, cm127]
  rfl

/-- The codes of one block, side by side. -/
def hcat (x0 : Vec Ideal S576x1024 .f32) (inv : Vec Ideal S576x128 .f32) : Vec Ideal S576x1024 .bf16 :=
  k0_pay43 (k0_pay20 (View.ld x0 (Rect.unit ![0, 0] ![576, 128] inb_S576x1024_S576x128_0_0)) inv) (k0_pay23 (View.ld x0 (Rect.unit ![0, 128] ![576, 128] inb_S576x1024_S576x128_0_128)) inv) (k0_pay28 (k0_pay24 (View.ld x0 (Rect.unit ![0, 256] ![576, 128] inb_S576x1024_S576x128_0_256)) inv) k0_pay25) (k0_pay31 (View.ld x0 (Rect.unit ![0, 384] ![576, 128] inb_S576x1024_S576x128_0_384)) inv) (k0_pay34 (View.ld x0 (Rect.unit ![0, 512] ![576, 128] inb_S576x1024_S576x128_0_512)) inv) (k0_pay35 (View.ld x0 (Rect.unit ![0, 640] ![576, 128] inb_S576x1024_S576x128_0_640)) inv) k0_pay36 (View.ld x0 (Rect.unit ![0, 768] ![576, 128] inb_S576x1024_S576x128_0_768)) inv (View.ld x0 (Rect.unit ![0, 896] ![576, 128] inb_S576x1024_S576x128_0_896)) inv

/-- Eight strips side by side, read at a column. -/
theorem cat_apply (p0 p1 p2 p3 p4 p5 p6 p7 : Vec Ideal S576x128 .bf16) (G : Fin 576 → Fin 1024 → EReal) (r : Fin 576) (k : Fin 1024)
    (e0 : ∀ (l : Fin 128) (k : Fin 1024), k.val = 0 + l.val → p0 (ix2 r l) = G r k) (e1 : ∀ (l : Fin 128) (k : Fin 1024), k.val = 128 + l.val → p1 (ix2 r l) = G r k)
    (e2 : ∀ (l : Fin 128) (k : Fin 1024), k.val = 256 + l.val → p2 (ix2 r l) = G r k) (e3 : ∀ (l : Fin 128) (k : Fin 1024), k.val = 384 + l.val → p3 (ix2 r l) = G r k)
    (e4 : ∀ (l : Fin 128) (k : Fin 1024), k.val = 512 + l.val → p4 (ix2 r l) = G r k) (e5 : ∀ (l : Fin 128) (k : Fin 1024), k.val = 640 + l.val → p5 (ix2 r l) = G r k)
    (e6 : ∀ (l : Fin 128) (k : Fin 1024), k.val = 768 + l.val → p6 (ix2 r l) = G r k) (e7 : ∀ (l : Fin 128) (k : Fin 1024), k.val = 896 + l.val → p7 (ix2 r l) = G r k) :
    concatenate S576x1024 1 [⟨S576x128, p0⟩, ⟨S576x128, p1⟩, ⟨S576x128, p2⟩, ⟨S576x128, p3⟩, ⟨S576x128, p4⟩, ⟨S576x128, p5⟩, ⟨S576x128, p6⟩, ⟨S576x128, p7⟩] concatenates_S576x128_S576x128_S576x128_S576x128_S576x128_S576x128_S576x128_S576x128_S576x1024_d1 (ix2 r k) = G r k := by
  have hk := k.isLt
  pointwise
  split_ifs <;> first | exact e0 _ k (by dsimp only; omega) | exact e1 _ k (by dsimp only; omega) | exact e2 _ k (by dsimp only; omega) | exact e3 _ k (by dsimp only; omega) | exact e4 _ k (by dsimp only; omega) | exact e5 _ k (by dsimp only; omega) | exact e6 _ k (by dsimp only; omega) | exact e7 _ k (by dsimp only; omega) | omega

theorem hcat_apply (x0 : Vec Ideal S576x1024 .f32) (inv : Vec Ideal S576x128 .f32) (r : Fin 576) (k : Fin 1024) :
    hcat x0 inv (ix2 r k) = cB x0 inv r k := by
  unfold hcat k0_pay43
  exact cat_apply _ _ _ _ _ _ _ _ (cB x0 inv) r k
    (fun l k h => (f20 _ _ r l).trans (cS_eq x0 inv 0 (by decide) _ r l k h))
    (fun l k h => (f23 _ _ r l).trans (cS_eq x0 inv 128 (by decide) _ r l k h))
    (fun l k h => (f28 _ _ r l).trans (cS_eq x0 inv 256 (by decide) _ r l k h))
    (fun l k h => (f31 _ _ r l).trans (cS_eq x0 inv 384 (by decide) _ r l k h))
    (fun l k h => (f34 _ _ r l).trans (cS_eq x0 inv 512 (by decide) _ r l k h))
    (fun l k h => (f37 _ _ r l).trans (cS_eq x0 inv 640 (by decide) _ r l k h))
    (fun l k h => (f39 _ _ r l).trans (cS_eq x0 inv 768 (by decide) _ r l k h))
    (fun l k h => (f41 _ _ r l).trans (cS_eq x0 inv 896 (by decide) _ r l k h))

theorem pay46_apply (h : Vec Ideal S576x1024 .bf16) (a : Vec Ideal S576x512 .f32) (w : Vec Ideal S1024x512 .i8) (r : Fin 576) (l : Fin 512) :
    k0_pay46 h a w (ix2 r l) = a (ix2 r l) + ∑ k : Fin 1024, h (ix2 r k) * (((w (ix2 k l)).toInt : ℝ) : EReal) := by
  pointwise [k0_pay46]
  rfl

theorem pay47_apply (h : Vec Ideal S576x1024 .bf16) (a : Vec Ideal S576x512 .f32) (w : Vec Ideal S1024x512 .i8) (r : Fin 576) (l : Fin 512) :
    k0_pay47 h a w (ix2 r l) = a (ix2 r l) + ∑ k : Fin 1024, h (ix2 r k) * (((w (ix2 k l)).toInt : ℝ) : EReal) := by
  pointwise [k0_pay47]
  rfl

theorem pay48_apply (h : Vec Ideal S576x1024 .bf16) (a : Vec Ideal S576x512 .f32) (w : Vec Ideal S1024x512 .i8) (r : Fin 576) (l : Fin 512) :
    k0_pay48 h a w (ix2 r l) = a (ix2 r l) + ∑ k : Fin 1024, h (ix2 r k) * (((w (ix2 k l)).toInt : ℝ) : EReal) := by
  pointwise [k0_pay48]
  rfl

theorem pay51_apply (h : Vec Ideal S576x1024 .bf16) (a : Vec Ideal S576x512 .f32) (w : Vec Ideal S1024x512 .i8) (r : Fin 576) (l : Fin 512) :
    k0_pay51 h a w (ix2 r l) = a (ix2 r l) + ∑ k : Fin 1024, h (ix2 r k) * (((w (ix2 k l)).toInt : ℝ) : EReal) := by
  pointwise [k0_pay51]
  rfl

theorem pay52_apply (h : Vec Ideal S576x1024 .bf16) (a : Vec Ideal S576x512 .f32) (w : Vec Ideal S1024x512 .i8) (r : Fin 576) (l : Fin 512) :
    k0_pay52 h a w (ix2 r l) = a (ix2 r l) + ∑ k : Fin 1024, h (ix2 r k) * (((w (ix2 k l)).toInt : ℝ) : EReal) := by
  pointwise [k0_pay52]
  rfl

theorem pay53_apply (h : Vec Ideal S576x1024 .bf16) (a : Vec Ideal S576x512 .f32) (w : Vec Ideal S1024x512 .i8) (r : Fin 576) (l : Fin 512) :
    k0_pay53 h a w (ix2 r l) = a (ix2 r l) + ∑ k : Fin 1024, h (ix2 r k) * (((w (ix2 k l)).toInt : ℝ) : EReal) := by
  pointwise [k0_pay53]
  rfl

theorem pay50_apply (h : Vec Ideal S576x1024 .bf16) (a : Vec Ideal S576x512 .f32) (w : Vec Ideal S1024x512 .i8) (r : Fin 576) (l : Fin 512) :
    k0_pay50 h a (k0_pay49 w) (constant S576x512 FTy.f32 0#32) (ix2 r l) = a (ix2 r l) + ∑ k : Fin 1024, h (ix2 r k) * (((w (ix2 k l)).toInt : ℝ) : EReal) := by
  pointwise [k0_pay50, k0_pay49]
  rfl

theorem pay45_apply (x0 : Vec Ideal S576x1024 .f32) (inv : Vec Ideal S576x128 .f32) (a : Vec Ideal S576x512 .f32) (w : Vec Ideal S1024x512 .i8) (r : Fin 576) (l : Fin 512) :
    k0_pay45 (k0_pay44 (k0_pay20 (View.ld x0 (Rect.unit ![0, 0] ![576, 128] inb_S576x1024_S576x128_0_0)) inv) (k0_pay23 (View.ld x0 (Rect.unit ![0, 128] ![576, 128] inb_S576x1024_S576x128_0_128)) inv) (k0_pay28 (k0_pay24 (View.ld x0 (Rect.unit ![0, 256] ![576, 128] inb_S576x1024_S576x128_0_256)) inv) k0_pay25) (k0_pay31 (View.ld x0 (Rect.unit ![0, 384] ![576, 128] inb_S576x1024_S576x128_0_384)) inv) (k0_pay34 (View.ld x0 (Rect.unit ![0, 512] ![576, 128] inb_S576x1024_S576x128_0_512)) inv) (k0_pay35 (View.ld x0 (Rect.unit ![0, 640] ![576, 128] inb_S576x1024_S576x128_0_640)) inv) k0_pay36 (View.ld x0 (Rect.unit ![0, 768] ![576, 128] inb_S576x1024_S576x128_0_768)) inv (View.ld x0 (Rect.unit ![0, 896] ![576, 128] inb_S576x1024_S576x128_0_896)) inv a w) (ix2 r l) = a (ix2 r l) + ∑ k : Fin 1024, hcat x0 inv (ix2 r k) * (((w (ix2 k l)).toInt : ℝ) : EReal) :=
  pay46_apply (hcat x0 inv) a w r l

/-- What one block adds to the accumulator: the codes of a row against a column of the weight. -/
def accB (x0 : Vec Ideal S576x1024 .f32) (inv : Vec Ideal S576x128 .f32) (w : Vec Ideal S1024x4096 .i8) (r : Fin 576) (l : Fin 4096) : EReal :=
  ∑ k : Fin 1024, cB x0 inv r k * (((w (ix2 k l)).toInt : ℝ) : EReal)

/-- A strip of columns of the weight, loaded alone. -/
theorem ld_w (v : Vec Ideal S1024x4096 .i8) (o : Nat) (inb : ∀ a, (![0, o] : Fin 2 → Nat) a + (![1024, 512] : Fin 2 → Nat) a ≤ S1024x4096.size a) (k : Fin 1024) (l : Fin 512)
    (L : Fin 4096) (hL : L.val = o + l.val) :
    View.ld v (Rect.unit ![0, o] ![1024, 512] inb) (ix2 k l) = v (ix2 k L) :=
  View.ld_unit_apply_of _ _ _ _ _ _ (fun a => by fin_cases a <;> simp [hL])

/-- A strip of columns of the accumulator, loaded alone. -/
theorem ld_acc (v : Vec Ideal S576x4096 .f32) (o : Nat) (inb : ∀ a, (![0, o] : Fin 2 → Nat) a + (![576, 512] : Fin 2 → Nat) a ≤ S576x4096.size a) (r : Fin 576) (l : Fin 512)
    (L : Fin 4096) (hL : L.val = o + l.val) :
    View.ld v (Rect.unit ![0, o] ![576, 512] inb) (ix2 r l) = v (ix2 r L) :=
  View.ld_unit_apply_of _ _ _ _ _ _ (fun a => by fin_cases a <;> simp [hL])

/-- The sum of one strip is the sum of the block at the strip's columns. -/
theorem sum_strip (x0 : Vec Ideal S576x1024 .f32) (inv : Vec Ideal S576x128 .f32) (w : Vec Ideal S1024x4096 .i8) (o : Nat) (inb : ∀ a, (![0, o] : Fin 2 → Nat) a + (![1024, 512] : Fin 2 → Nat) a ≤ S1024x4096.size a)
    (r : Fin 576) (l : Fin 512) (L : Fin 4096) (hL : L.val = o + l.val) :
    ∑ k : Fin 1024, hcat x0 inv (ix2 r k) * (((View.ld w (Rect.unit ![0, o] ![1024, 512] inb) (ix2 k l)).toInt : ℝ) : EReal) = accB x0 inv w r L :=
  Finset.sum_congr rfl fun k _ => by rw [hcat_apply, ld_w w o inb k l L hL]

theorem code_fin (x0 : Vec Ideal S576x1024 .f32) (inv : Vec Ideal S576x128 .f32) (o : Nat) (ho : o % 128 = 0) (inb : ∀ a, (![0, o] : Fin 2 → Nat) a + (![576, 128] : Fin 2 → Nat) a ≤ S576x1024.size a)
    (r : Fin 576) (l : Fin 128) (L : Fin 1024) (hL : L.val = o + l.val) (T : BitVec 8) (hT : T = Ideal.fptosi 8 (cS (View.ld x0 (Rect.unit ![0, o] ![576, 128] inb)) inv r l)) :
    T = Ideal.fptosi 8 (cB x0 inv r L) := by
  rw [hT, cS_eq x0 inv o ho inb r l L hL]

theorem acc_fin (x0 : Vec Ideal S576x1024 .f32) (inv : Vec Ideal S576x128 .f32) (w : Vec Ideal S1024x4096 .i8) (o : Nat)
    (inb' : ∀ a, (![0, o] : Fin 2 → Nat) a + (![1024, 512] : Fin 2 → Nat) a ≤ S1024x4096.size a)
    (r : Fin 576) (l : Fin 512) (L : Fin 4096) (hL : L.val = o + l.val) (T A B : EReal) (hA : A = B)
    (hT : T = A + ∑ k : Fin 1024, hcat x0 inv (ix2 r k) * (((View.ld w (Rect.unit ![0, o] ![1024, 512] inb') (ix2 k l)).toInt : ℝ) : EReal)) :
    T = B + accB x0 inv w r L := by
  rw [hT, sum_strip x0 inv w o inb' r l L hL, hA]

/-- The codes a point of case B leaves. -/
theorem out_B_6 (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : ¬cond0_0 i) (hc1 : ¬cond0_1 i)
    (x0 : Vec Ideal S576x1024 .f32) (x1 : Vec Ideal S576x128 .f32) (x2 : Vec Ideal S576x4096 .f32) (x3 : Vec Ideal S1x4096 .f32) (x4 : Vec Ideal S1024x4096 .i8) (xs0 : Vec Ideal S576x4096 .f32) (xs1 : Vec Ideal S576x128 .f32) (xs2 : Vec Ideal S576x128 .f32) (r : Fin 576) (l : Fin 1024) :
    out0_B_6 c i a1 h1 a2 h2 a3 h3 a4 h4 a5 h5 a6 h6 a7 h7 a8 h8 a9 h9 a10 h10 a11 h11 hc0 hc1 x0 x1 x2 x3 x4 xs0 xs1 xs2 (ix2 r l) = Ideal.fptosi 8 (cB x0 xs2 r l) := by
  frame_out
  canon_tiles x hA
  all_goals
    obtain ⟨xa, xb, rfl⟩ : ∃ xa xb, x = ix2 xa xb := ⟨x 0, x 1, eq_ix2 x⟩
    obtain rfl : r = xa := Fin.ext hA0
  · exact code_fin x0 xs2 896 (by decide) _ r xb l hA1 _ (i42 _ _ r xb)
  · exact code_fin x0 xs2 768 (by decide) _ r xb l hA1 _ (i40 _ _ r xb)
  · exact code_fin x0 xs2 640 (by decide) _ r xb l hA1 _ (i38 _ _ r xb)
  · exact code_fin x0 xs2 512 (by decide) _ r xb l hA1 _ (i33 _ _ r xb)
  · exact code_fin x0 xs2 384 (by decide) _ r xb l hA1 _ (i30 _ _ r xb)
  · exact code_fin x0 xs2 256 (by decide) _ r xb l hA1 _ (i27 _ _ r xb)
  · exact code_fin x0 xs2 128 (by decide) _ r xb l hA1 _ (i22 _ _ r xb)
  · exact code_fin x0 xs2 0 (by decide) _ r xb l (hA1.trans (Nat.zero_add _).symm) _ (i19 _ _ r xb)

/-- The codes a point of case C leaves. -/
theorem out_C_6 (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : ¬cond0_0 i) (hc1 : cond0_1 i)
    (x0 : Vec Ideal S576x1024 .f32) (x1 : Vec Ideal S576x128 .f32) (x2 : Vec Ideal S576x4096 .f32) (x3 : Vec Ideal S1x4096 .f32) (x4 : Vec Ideal S1024x4096 .i8) (xs0 : Vec Ideal S576x4096 .f32) (xs1 : Vec Ideal S576x128 .f32) (xs2 : Vec Ideal S576x128 .f32) (r : Fin 576) (l : Fin 1024) :
    out0_C_6 c i a1 h1 a2 h2 a3 h3 a4 h4 a5 h5 a6 h6 a7 h7 a8 h8 a9 h9 a10 h10 a11 h11 hc0 hc1 x0 x1 x2 x3 x4 xs0 xs1 xs2 (ix2 r l) = Ideal.fptosi 8 (cB x0 xs2 r l) := by
  frame_out
  canon_tiles x hA
  all_goals
    obtain ⟨xa, xb, rfl⟩ : ∃ xa xb, x = ix2 xa xb := ⟨x 0, x 1, eq_ix2 x⟩
    obtain rfl : r = xa := Fin.ext hA0
  · exact code_fin x0 xs2 896 (by decide) _ r xb l hA1 _ (i42 _ _ r xb)
  · exact code_fin x0 xs2 768 (by decide) _ r xb l hA1 _ (i40 _ _ r xb)
  · exact code_fin x0 xs2 640 (by decide) _ r xb l hA1 _ (i38 _ _ r xb)
  · exact code_fin x0 xs2 512 (by decide) _ r xb l hA1 _ (i33 _ _ r xb)
  · exact code_fin x0 xs2 384 (by decide) _ r xb l hA1 _ (i30 _ _ r xb)
  · exact code_fin x0 xs2 256 (by decide) _ r xb l hA1 _ (i27 _ _ r xb)
  · exact code_fin x0 xs2 128 (by decide) _ r xb l hA1 _ (i22 _ _ r xb)
  · exact code_fin x0 xs2 0 (by decide) _ r xb l (hA1.trans (Nat.zero_add _).symm) _ (i19 _ _ r xb)

/-- The accumulator a point of case B leaves. -/
theorem sout_B (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : ¬cond0_0 i) (hc1 : ¬cond0_1 i)
    (x0 : Vec Ideal S576x1024 .f32) (x1 : Vec Ideal S576x128 .f32) (x2 : Vec Ideal S576x4096 .f32) (x3 : Vec Ideal S1x4096 .f32) (x4 : Vec Ideal S1024x4096 .i8) (xs0 : Vec Ideal S576x4096 .f32) (xs1 : Vec Ideal S576x128 .f32) (xs2 : Vec Ideal S576x128 .f32) (r : Fin 576) (l : Fin 4096) :
    sout0_B_0 c i a1 h1 a2 h2 a3 h3 a4 h4 a5 h5 a6 h6 a7 h7 a8 h8 a9 h9 a10 h10 a11 h11 hc0 hc1 x0 x1 x2 x3 x4 xs0 xs1 xs2 (ix2 r l) = xs0 (ix2 r l) + accB x0 xs2 x4 r l := by
  frame_out
  canon_tiles x hA
  all_goals
    obtain ⟨xa, xb, rfl⟩ : ∃ xa xb, x = ix2 xa xb := ⟨x 0, x 1, eq_ix2 x⟩
    obtain rfl : r = xa := Fin.ext hA0
  · exact acc_fin x0 xs2 x4 3584 _ r xb l hA1 _ _ _ (ld_acc xs0 3584 _ r xb l hA1) (pay53_apply (hcat x0 xs2) _ _ r xb)
  · exact acc_fin x0 xs2 x4 3072 _ r xb l hA1 _ _ _ (ld_acc xs0 3072 _ r xb l hA1) (pay52_apply (hcat x0 xs2) _ _ r xb)
  · exact acc_fin x0 xs2 x4 2560 _ r xb l hA1 _ _ _ (ld_acc xs0 2560 _ r xb l hA1) (pay51_apply (hcat x0 xs2) _ _ r xb)
  · exact acc_fin x0 xs2 x4 2048 _ r xb l hA1 _ _ _ (ld_acc xs0 2048 _ r xb l hA1) (pay50_apply (hcat x0 xs2) _ _ r xb)
  · exact acc_fin x0 xs2 x4 1536 _ r xb l hA1 _ _ _ (ld_acc xs0 1536 _ r xb l hA1) (pay48_apply (hcat x0 xs2) _ _ r xb)
  · exact acc_fin x0 xs2 x4 1024 _ r xb l hA1 _ _ _ (ld_acc xs0 1024 _ r xb l hA1) (pay47_apply (hcat x0 xs2) _ _ r xb)
  · exact acc_fin x0 xs2 x4 512 _ r xb l hA1 _ _ _ (ld_acc xs0 512 _ r xb l hA1) (pay46_apply (hcat x0 xs2) _ _ r xb)
  · exact acc_fin x0 xs2 x4 0 _ r xb l (hA1.trans (Nat.zero_add _).symm) _ _ _ (ld_acc xs0 0 _ r xb l (hA1.trans (Nat.zero_add _).symm)) (pay45_apply x0 xs2 _ _ r xb)

/-- The accumulator a point of case C leaves. -/
theorem sout_C (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : ¬cond0_0 i) (hc1 : cond0_1 i)
    (x0 : Vec Ideal S576x1024 .f32) (x1 : Vec Ideal S576x128 .f32) (x2 : Vec Ideal S576x4096 .f32) (x3 : Vec Ideal S1x4096 .f32) (x4 : Vec Ideal S1024x4096 .i8) (xs0 : Vec Ideal S576x4096 .f32) (xs1 : Vec Ideal S576x128 .f32) (xs2 : Vec Ideal S576x128 .f32) (r : Fin 576) (l : Fin 4096) :
    sout0_C_0 c i a1 h1 a2 h2 a3 h3 a4 h4 a5 h5 a6 h6 a7 h7 a8 h8 a9 h9 a10 h10 a11 h11 hc0 hc1 x0 x1 x2 x3 x4 xs0 xs1 xs2 (ix2 r l) = xs0 (ix2 r l) + accB x0 xs2 x4 r l := by
  frame_out
  canon_tiles x hA
  all_goals
    obtain ⟨xa, xb, rfl⟩ : ∃ xa xb, x = ix2 xa xb := ⟨x 0, x 1, eq_ix2 x⟩
    obtain rfl : r = xa := Fin.ext hA0
  · exact acc_fin x0 xs2 x4 3584 _ r xb l hA1 _ _ _ (ld_acc xs0 3584 _ r xb l hA1) (pay53_apply (hcat x0 xs2) _ _ r xb)
  · exact acc_fin x0 xs2 x4 3072 _ r xb l hA1 _ _ _ (ld_acc xs0 3072 _ r xb l hA1) (pay52_apply (hcat x0 xs2) _ _ r xb)
  · exact acc_fin x0 xs2 x4 2560 _ r xb l hA1 _ _ _ (ld_acc xs0 2560 _ r xb l hA1) (pay51_apply (hcat x0 xs2) _ _ r xb)
  · exact acc_fin x0 xs2 x4 2048 _ r xb l hA1 _ _ _ (ld_acc xs0 2048 _ r xb l hA1) (pay50_apply (hcat x0 xs2) _ _ r xb)
  · exact acc_fin x0 xs2 x4 1536 _ r xb l hA1 _ _ _ (ld_acc xs0 1536 _ r xb l hA1) (pay48_apply (hcat x0 xs2) _ _ r xb)
  · exact acc_fin x0 xs2 x4 1024 _ r xb l hA1 _ _ _ (ld_acc xs0 1024 _ r xb l hA1) (pay47_apply (hcat x0 xs2) _ _ r xb)
  · exact acc_fin x0 xs2 x4 512 _ r xb l hA1 _ _ _ (ld_acc xs0 512 _ r xb l hA1) (pay46_apply (hcat x0 xs2) _ _ r xb)
  · exact acc_fin x0 xs2 x4 0 _ r xb l (hA1.trans (Nat.zero_add _).symm) _ _ _ (ld_acc xs0 0 _ r xb l (hA1.trans (Nat.zero_add _).symm)) (pay45_apply x0 xs2 _ _ r xb)

end Cert.KDownIdeal.Hand
-- ==== Proof.DownCaseA.lean ====
module

public import proofs.«01_k».proof.Proof.DownCase
public import proofs.«01_k».proof.Proof.DownMath
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KDownIdeal.Hand

open Cert.KDownIdeal Cert.KDownIdeal.Gen Cert.Proof.Down

/-- The largest of a row's lane maxima. -/
def topR (x1 : Vec Ideal S576x128 .f32) (r : Fin 576) : EReal :=
  (Finset.univ : Finset (Fin 128)).fold max (Ideal.ofBits .f32 0xFF800000#32) (fun j => x1 (ix2 r j))

/-- The scale of every row, in every lane. -/
def colD (x1 : Vec Ideal S576x128 .f32) : Vec Ideal S576x128 .f32 := fun j => scaleS (topR x1 (j 0))

/-- The reciprocal scale of every row, in every lane. -/
def invD (x1 : Vec Ideal S576x128 .f32) : Vec Ideal S576x128 .f32 := fun j => Ideal.div 1 (scaleS (topR x1 (j 0)))

theorem pay3_eq (x1 : Vec Ideal S576x128 .f32) : k0_pay3 x1 = colD x1 := by
  funext y
  obtain ⟨r, l, rfl⟩ : ∃ r l, y = ix2 r l := ⟨y 0, y 1, eq_ix2 y⟩
  pointwise [k0_pay3, k0_pay2]
  rw [c127]
  rfl

theorem pay4_eq (x1 : Vec Ideal S576x128 .f32) : k0_pay4 x1 = invD x1 := by
  funext y
  obtain ⟨r, l, rfl⟩ : ∃ r l, y = ix2 r l := ⟨y 0, y 1, eq_ix2 y⟩
  pointwise [k0_pay4, k0_pay2]
  rw [c127]
  rfl

theorem canon_whole (inb : ∀ a, (![0, 0] : Fin 2 → Nat) a + (![576, 128] : Fin 2 → Nat) a ≤ S576x128.size a) (X : Vec Ideal S576x128 .f32) :
    View.canon (Val := Elt Ideal) [⟨Rect.unit ![0, 0] ![576, 128] inb, X⟩] = X := by
  exact View.canon_unit_zero (S := S576x128) (funext fun a => by fin_cases a <;> rfl) inb X

/-- The first point leaves the scale column. -/
theorem sout_A_1 (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : cond0_0 i) (hc1 : ¬cond0_1 i)
    (x0 : Vec Ideal S576x1024 .f32) (x1 : Vec Ideal S576x128 .f32) (x2 : Vec Ideal S576x4096 .f32) (x3 : Vec Ideal S1x4096 .f32) (x4 : Vec Ideal S1024x4096 .i8) :
    sout0_A_1 c i a1 h1 a2 h2 a3 h3 a4 h4 a5 h5 a6 h6 a7 h7 a8 h8 a9 h9 a10 h10 a11 h11 hc0 hc1 x0 x1 x2 x3 x4 = colD x1 := by
  rw [← pay3_eq]
  funext y
  frame_out

/-- The first point leaves the reciprocal column. -/
theorem sout_A_2 (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : cond0_0 i) (hc1 : ¬cond0_1 i)
    (x0 : Vec Ideal S576x1024 .f32) (x1 : Vec Ideal S576x128 .f32) (x2 : Vec Ideal S576x4096 .f32) (x3 : Vec Ideal S1x4096 .f32) (x4 : Vec Ideal S1024x4096 .i8) :
    sout0_A_2 c i a1 h1 a2 h2 a3 h3 a4 h4 a5 h5 a6 h6 a7 h7 a8 h8 a9 h9 a10 h10 a11 h11 hc0 hc1 x0 x1 x2 x3 x4 = invD x1 := by
  rw [← pay4_eq]
  funext y
  frame_out

/-- A whole load of what one whole store left, read at a row. -/
theorem rcv (v : View sig .tc .vmem S576x128 .f32) (X : Vec Ideal S576x128 .f32) (o : Nat) (inb' : ∀ a, (![o, 0] : Fin 2 → Nat) a + (![48, 128] : Fin 2 → Nat) a ≤ S576x128.size a)
    (inb : ∀ a, (![0, 0] : Fin 2 → Nat) a + (![576, 128] : Fin 2 → Nat) a ≤ S576x128.size a) (r : Fin 48) (l : Fin 128) (R : Fin 576) (hR : R.val = o + r.val) :
    v.readCov [⟨Rect.unit ![0, 0] ![576, 128] inb, X⟩] (Rect.unit (s := S576x128) ![o, 0] ![48, 128] inb').toLoadRect (ix2 r l) = X (ix2 R l) := by
  rw [View.readCov_eq_canon']
  refine (congrFun (canon_whole inb X) _).trans ?_
  refine congrArg X ?_
  funext a
  fin_cases a
  · exact Fin.ext (by simpa using hR.symm)
  · exact Fin.ext (by simp)

theorem hrow5 (v : Vec Ideal S48x128 .f32) (q : Fin 48) : k0_pay5 v (ix2 0 q) = v (ix2 q 0) := by
  pointwise [k0_pay5]

theorem hrow6 (v : Vec Ideal S48x128 .f32) (q : Fin 48) : k0_pay6 v (ix2 0 q) = v (ix2 q 0) := by
  pointwise [k0_pay6]

theorem hrow7 (v : Vec Ideal S48x128 .f32) (q : Fin 48) : k0_pay7 v (ix2 0 q) = v (ix2 q 0) := by
  pointwise [k0_pay7]

theorem hrow15 (v : Vec Ideal S48x128 .f32) (q : Fin 48) : k0_pay15 v (ix2 0 q) = v (ix2 q 0) := by
  pointwise [k0_pay15]

theorem hrow16 (v : Vec Ideal S48x128 .f32) (q : Fin 48) : k0_pay16 v (ix2 0 q) = v (ix2 q 0) := by
  pointwise [k0_pay16]

theorem hrow8 (v : Vec Ideal S48x128 .f32) (q : Fin 48) : extractStridedSlice S1x48 ![0, 0] (transpose S128x48 [1, 0] v transposes_S48x128_p1_0_S128x48) slices_S128x48_o0_0_S1x48 (ix2 0 q) = v (ix2 q 0) := by
  pointwise []

/-- One stored row of scales. -/
theorem hs_fin (v : View sig .tc .vmem S576x128 .f32) (x1 : Vec Ideal S576x128 .f32) (o p : Nat) (inb' : ∀ a, (![o, 0] : Fin 2 → Nat) a + (![48, 128] : Fin 2 → Nat) a ≤ S576x128.size a)
    (inb : ∀ a, (![0, 0] : Fin 2 → Nat) a + (![576, 128] : Fin 2 → Nat) a ≤ S576x128.size a) (ho : o = 48 * p) (b : Fin 12) (q xb : Fin 48) (hb : b.val = p) (hq : q.val = xb.val) (T : EReal)
    (X : Vec Ideal S576x128 .f32) (hX : X = k0_pay3 x1) (hT : T = v.readCov [⟨Rect.unit ![0, 0] ![576, 128] inb, X⟩] (Rect.unit (s := S576x128) ![o, 0] ![48, 128] inb').toLoadRect (ix2 xb (0 : Fin 128))) :
    T = scaleS (topR x1 ⟨48 * b.val + q.val, by omega⟩) := by
  rw [hT, rcv v _ o inb' inb xb 0 ⟨48 * b.val + q.val, by omega⟩ (by dsimp only; omega), hX, pay3_eq]
  rfl

/-- The scales the first point leaves. -/
theorem out_A_7 (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : cond0_0 i) (hc1 : ¬cond0_1 i)
    (x0 : Vec Ideal S576x1024 .f32) (x1 : Vec Ideal S576x128 .f32) (x2 : Vec Ideal S576x4096 .f32) (x3 : Vec Ideal S1x4096 .f32) (x4 : Vec Ideal S1024x4096 .i8) (b : Fin 12) (q : Fin 48) :
    out0_A_7 c i a1 h1 a2 h2 a3 h3 a4 h4 a5 h5 a6 h6 a7 h7 a8 h8 a9 h9 a10 h10 a11 h11 hc0 hc1 x0 x1 x2 x3 x4 (ix2 b q) = scaleS (topR x1 ⟨48 * b.val + q.val, by omega⟩) := by
  frame_out
  canon_tiles x hA
  all_goals
    obtain ⟨xa, xb, rfl⟩ : ∃ xa xb, x = ix2 xa xb := ⟨x 0, x 1, eq_ix2 x⟩
    obtain rfl : xa = 0 := Subsingleton.elim _ _
  · exact hs_fin _ x1 528 11 _ _ (by decide) b q xb hA0 hA1 _ _ rfl (hrow16 _ xb)
  · exact hs_fin _ x1 480 10 _ _ (by decide) b q xb hA0 hA1 _ _ rfl (hrow15 _ xb)
  · exact hs_fin _ x1 432 9 _ _ (by decide) b q xb hA0 hA1 _ _ rfl (hrow8 _ xb)
  · exact hs_fin _ x1 384 8 _ _ (by decide) b q xb hA0 hA1 _ _ rfl (hrow8 _ xb)
  · exact hs_fin _ x1 336 7 _ _ (by decide) b q xb hA0 hA1 _ _ rfl (hrow8 _ xb)
  · exact hs_fin _ x1 288 6 _ _ (by decide) b q xb hA0 hA1 _ _ rfl (hrow8 _ xb)
  · exact hs_fin _ x1 240 5 _ _ (by decide) b q xb hA0 hA1 _ _ rfl (hrow8 _ xb)
  · exact hs_fin _ x1 192 4 _ _ (by decide) b q xb hA0 hA1 _ _ rfl (hrow8 _ xb)
  · exact hs_fin _ x1 144 3 _ _ (by decide) b q xb hA0 hA1 _ _ rfl (hrow8 _ xb)
  · exact hs_fin _ x1 96 2 _ _ (by decide) b q xb hA0 hA1 _ _ rfl (hrow7 _ xb)
  · exact hs_fin _ x1 48 1 _ _ (by decide) b q xb hA0 hA1 _ _ rfl (hrow6 _ xb)
  · exact hs_fin _ x1 0 0 _ _ (by decide) b q xb hA0 hA1 _ _ rfl (hrow5 _ xb)

/-- A strip stored before a column is not what the column reads. -/
theorem canon_skip (o : Nat) (inb : ∀ a, (![0, o] : Fin 2 → Nat) a + (![576, 512] : Fin 2 → Nat) a ≤ S576x4096.size a) (w : Vec Ideal S576x512 .f32)
    (L : List (View.Piece (Elt Ideal) S576x4096 .f32)) (r : Fin 576) (l : Fin 4096) (h : o + 512 ≤ l.val) (hL : View.canon (Val := Elt Ideal) L (ix2 r l) = (0 : EReal)) :
    View.canon (Val := Elt Ideal) (⟨Rect.unit ![0, o] ![576, 512] inb, w⟩ :: L) (ix2 r l) = (0 : EReal) := by
  refine (View.canon_cons_of_not_mem _ _ fun hm => ?_).trans hL
  have h1 := ((Rect.mem_set_unit (s := S576x4096) (off := ![0, o]) (size := ![576, 512]) (inb := inb)).mp hm 1).2
  have h2 : l.val < o + 512 := h1
  omega

/-- A strip on top of earlier stores: its payload where it lies, the earlier stores elsewhere. -/
theorem canon_step (o : Nat) (inb : ∀ a, (![0, o] : Fin 2 → Nat) a + (![576, 512] : Fin 2 → Nat) a ≤ S576x4096.size a) (w : Vec Ideal S576x512 .f32)
    (L : List (View.Piece (Elt Ideal) S576x4096 .f32)) (r : Fin 576) (l : Fin 4096) (v : EReal) (h1 : ∀ xb : Fin 512, l.val = o + xb.val → w (ix2 r xb) = v)
    (h2 : ¬(o ≤ l.val ∧ l.val < o + 512) → View.canon (Val := Elt Ideal) L (ix2 r l) = v) :
    View.canon (Val := Elt Ideal) (⟨Rect.unit ![0, o] ![576, 512] inb, w⟩ :: L) (ix2 r l) = v := by
  by_cases hl : o ≤ l.val ∧ l.val < o + 512
  · have e : (ix2 r l : S576x4096.Idx) = (Rect.unit ![0, o] ![576, 512] inb).emb (ix2 r (⟨l.val - o, by omega⟩ : Fin 512) : S576x512.Idx) := by
      funext a
      fin_cases a
      · exact Fin.ext (show r.val = 0 + 1 * r.val by omega)
      · refine Fin.ext ?_
        show l.val = o + 1 * (l.val - o)
        omega
    refine (congrArg (View.canon (Val := Elt Ideal) (s := S576x4096) (e := .f32) (⟨Rect.unit ![0, o] ![576, 512] inb, w⟩ :: L)) e).trans ?_
    refine (View.canon_cons_emb (Val := Elt Ideal) (s := S576x4096) (e := .f32) (Rect.unit ![0, o] ![576, 512] inb) w L (ix2 r (⟨l.val - o, by omega⟩ : Fin 512))).trans ?_
    exact h1 ⟨l.val - o, by omega⟩ (by dsimp only; omega)
  · refine (View.canon_cons_of_not_mem _ _ fun hm => hl ?_).trans (h2 hl)
    exact ⟨((Rect.mem_set_unit (s := S576x4096) (off := ![0, o]) (size := ![576, 512]) (inb := inb)).mp hm 1).1, ((Rect.mem_set_unit (s := S576x4096) (off := ![0, o]) (size := ![576, 512]) (inb := inb)).mp hm 1).2⟩

theorem canon_whole' (inb : ∀ a, (![0, 0] : Fin 2 → Nat) a + (![576, 4096] : Fin 2 → Nat) a ≤ S576x4096.size a) (X : Vec Ideal S576x4096 .f32) :
    View.canon (Val := Elt Ideal) [⟨Rect.unit ![0, 0] ![576, 4096] inb, X⟩] = X := by
  exact View.canon_unit_zero (S := S576x4096) (funext fun a => by fin_cases a <;> rfl) inb X

theorem canon_zero (inb : ∀ a, (![0, 0] : Fin 2 → Nat) a + (![576, 4096] : Fin 2 → Nat) a ≤ S576x4096.size a) (r : Fin 576) (l : Fin 4096) :
    View.canon (Val := Elt Ideal) (s := S576x4096) (e := .f32) [⟨Rect.unit ![0, 0] ![576, 4096] inb, (k0_pay17 (F := Ideal))⟩] (ix2 r l) = (0 : EReal) := by
  rw [canon_whole']
  pointwise [k0_pay17]

/-- A strip of the accumulator read while its columns still hold zero. -/
theorem rz (v : View sig .tc .vmem S576x4096 .f32) (L : List (View.Piece (Elt Ideal) S576x4096 .f32)) (o : Nat) (inb : ∀ a, (![0, o] : Fin 2 → Nat) a + (![576, 512] : Fin 2 → Nat) a ≤ S576x4096.size a)
    (r : Fin 576) (xb : Fin 512) (l : Fin 4096) (hl : l.val = o + xb.val) (hc : View.canon (Val := Elt Ideal) L (ix2 r l) = (0 : EReal)) :
    (v.readCov L (Rect.unit (s := S576x4096) ![0, o] ![576, 512] inb).toLoadRect) (ix2 r xb) = (0 : EReal) := by
  rw [View.readCov_eq_canon']
  refine (congrArg (View.canon L) (funext fun a => ?_)).trans hc
  fin_cases a
  · exact Fin.ext (by simp)
  · exact Fin.ext (by simpa using hl.symm)

set_option maxHeartbeats 2000000 in
/-- The accumulator the first point leaves. -/
theorem sout_A (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : cond0_0 i) (hc1 : ¬cond0_1 i)
    (x0 : Vec Ideal S576x1024 .f32) (x1 : Vec Ideal S576x128 .f32) (x2 : Vec Ideal S576x4096 .f32) (x3 : Vec Ideal S1x4096 .f32) (x4 : Vec Ideal S1024x4096 .i8) (r : Fin 576) (l : Fin 4096) :
    sout0_A_0 c i a1 h1 a2 h2 a3 h3 a4 h4 a5 h5 a6 h6 a7 h7 a8 h8 a9 h9 a10 h10 a11 h11 hc0 hc1 x0 x1 x2 x3 x4 (ix2 r l) = 0 + accB x0 (invD x1) x4 r l := by
  rw [← pay4_eq]
  frame_out
  refine canon_step 3584 _ _ _ r l _ (fun xb h => acc_fin x0 (k0_pay4 x1) x4 3584 _ r xb l h _ _ _ (rz _ _ 3584 _ r xb l h (canon_skip 3072 _ _ _ _ _ (by omega) (canon_skip 2560 _ _ _ _ _ (by omega) (canon_skip 2048 _ _ _ _ _ (by omega) (canon_skip 1536 _ _ _ _ _ (by omega) (canon_skip 1024 _ _ _ _ _ (by omega) (canon_skip 512 _ _ _ _ _ (by omega) (canon_skip 0 _ _ _ _ _ (by omega) (canon_zero _ _ _))))))))) (pay53_apply (hcat x0 (k0_pay4 x1)) _ _ r xb)) (fun n7 => ?_)
  refine canon_step 3072 _ _ _ r l _ (fun xb h => acc_fin x0 (k0_pay4 x1) x4 3072 _ r xb l h _ _ _ (rz _ _ 3072 _ r xb l h (canon_skip 2560 _ _ _ _ _ (by omega) (canon_skip 2048 _ _ _ _ _ (by omega) (canon_skip 1536 _ _ _ _ _ (by omega) (canon_skip 1024 _ _ _ _ _ (by omega) (canon_skip 512 _ _ _ _ _ (by omega) (canon_skip 0 _ _ _ _ _ (by omega) (canon_zero _ _ _)))))))) (pay52_apply (hcat x0 (k0_pay4 x1)) _ _ r xb)) (fun n6 => ?_)
  refine canon_step 2560 _ _ _ r l _ (fun xb h => acc_fin x0 (k0_pay4 x1) x4 2560 _ r xb l h _ _ _ (rz _ _ 2560 _ r xb l h (canon_skip 2048 _ _ _ _ _ (by omega) (canon_skip 1536 _ _ _ _ _ (by omega) (canon_skip 1024 _ _ _ _ _ (by omega) (canon_skip 512 _ _ _ _ _ (by omega) (canon_skip 0 _ _ _ _ _ (by omega) (canon_zero _ _ _))))))) (pay51_apply (hcat x0 (k0_pay4 x1)) _ _ r xb)) (fun n5 => ?_)
  refine canon_step 2048 _ _ _ r l _ (fun xb h => acc_fin x0 (k0_pay4 x1) x4 2048 _ r xb l h _ _ _ (rz _ _ 2048 _ r xb l h (canon_skip 1536 _ _ _ _ _ (by omega) (canon_skip 1024 _ _ _ _ _ (by omega) (canon_skip 512 _ _ _ _ _ (by omega) (canon_skip 0 _ _ _ _ _ (by omega) (canon_zero _ _ _)))))) (pay50_apply (hcat x0 (k0_pay4 x1)) _ _ r xb)) (fun n4 => ?_)
  refine canon_step 1536 _ _ _ r l _ (fun xb h => acc_fin x0 (k0_pay4 x1) x4 1536 _ r xb l h _ _ _ (rz _ _ 1536 _ r xb l h (canon_skip 1024 _ _ _ _ _ (by omega) (canon_skip 512 _ _ _ _ _ (by omega) (canon_skip 0 _ _ _ _ _ (by omega) (canon_zero _ _ _))))) (pay48_apply (hcat x0 (k0_pay4 x1)) _ _ r xb)) (fun n3 => ?_)
  refine canon_step 1024 _ _ _ r l _ (fun xb h => acc_fin x0 (k0_pay4 x1) x4 1024 _ r xb l h _ _ _ (rz _ _ 1024 _ r xb l h (canon_skip 512 _ _ _ _ _ (by omega) (canon_skip 0 _ _ _ _ _ (by omega) (canon_zero _ _ _)))) (pay47_apply (hcat x0 (k0_pay4 x1)) _ _ r xb)) (fun n2 => ?_)
  refine canon_step 512 _ _ _ r l _ (fun xb h => acc_fin x0 (k0_pay4 x1) x4 512 _ r xb l h _ _ _ (rz _ _ 512 _ r xb l h (canon_skip 0 _ _ _ _ _ (by omega) (canon_zero _ _ _))) (pay46_apply (hcat x0 (k0_pay4 x1)) _ _ r xb)) (fun n1 => ?_)
  refine canon_step 0 _ _ _ r l _ (fun xb h => acc_fin x0 (k0_pay4 x1) x4 0 _ r xb l h _ _ _ (rz _ _ 0 _ r xb l h (canon_zero _ _ _)) (pay45_apply x0 (k0_pay4 x1) _ _ r xb)) (fun n0 => ?_)
  have := l.isLt
  omega

set_option maxHeartbeats 2000000 in
/-- The codes the first point leaves. -/
theorem out_A_6 (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : cond0_0 i) (hc1 : ¬cond0_1 i)
    (x0 : Vec Ideal S576x1024 .f32) (x1 : Vec Ideal S576x128 .f32) (x2 : Vec Ideal S576x4096 .f32) (x3 : Vec Ideal S1x4096 .f32) (x4 : Vec Ideal S1024x4096 .i8) (r : Fin 576) (l : Fin 1024) :
    out0_A_6 c i a1 h1 a2 h2 a3 h3 a4 h4 a5 h5 a6 h6 a7 h7 a8 h8 a9 h9 a10 h10 a11 h11 hc0 hc1 x0 x1 x2 x3 x4 (ix2 r l) = Ideal.fptosi 8 (cB x0 (invD x1) r l) := by
  rw [← pay4_eq]
  frame_out
  canon_tiles x hA
  all_goals
    obtain ⟨xa, xb, rfl⟩ : ∃ xa xb, x = ix2 xa xb := ⟨x 0, x 1, eq_ix2 x⟩
    obtain rfl : r = xa := Fin.ext hA0
  · exact code_fin x0 (k0_pay4 x1) 896 (by decide) _ r xb l hA1 _ (i42 _ _ r xb)
  · exact code_fin x0 (k0_pay4 x1) 768 (by decide) _ r xb l hA1 _ (i40 _ _ r xb)
  · exact code_fin x0 (k0_pay4 x1) 640 (by decide) _ r xb l hA1 _ (i38 _ _ r xb)
  · exact code_fin x0 (k0_pay4 x1) 512 (by decide) _ r xb l hA1 _ (i33 _ _ r xb)
  · exact code_fin x0 (k0_pay4 x1) 384 (by decide) _ r xb l hA1 _ (i30 _ _ r xb)
  · exact code_fin x0 (k0_pay4 x1) 256 (by decide) _ r xb l hA1 _ (i27 _ _ r xb)
  · exact code_fin x0 (k0_pay4 x1) 128 (by decide) _ r xb l hA1 _ (i22 _ _ r xb)
  · exact code_fin x0 (k0_pay4 x1) 0 (by decide) _ r xb l (hA1.trans (Nat.zero_add _).symm) _ (i19 _ _ r xb)

end Cert.KDownIdeal.Hand
-- ==== Proof.DownCaseY.lean ====
module

public import proofs.«01_k».proof.Proof.DownCase
public import proofs.«01_k».proof.Proof.DownMath
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KDownIdeal.Hand

open Cert.KDownIdeal Cert.KDownIdeal.Gen Cert.Proof.Down

/-- One entry of the output: the residual plus the dequantised product. -/
def yE (x2 acc : Vec Ideal S576x4096 .f32) (x3 : Vec Ideal S1x4096 .f32) (col : Vec Ideal S576x128 .f32) (r : Fin 576) (l : Fin 4096) : EReal :=
  x2 (ix2 r l) + acc (ix2 r l) * col (ix2 r 0) * x3 (ix2 0 l)

theorem pay1_apply (a : Vec Ideal S16x4096 .f32) (b : Vec Ideal S16x1 .f32) (w : Vec Ideal S1x4096 .f32) (d : Vec Ideal S16x4096 .f32) (r : Fin 16) (l : Fin 4096) :
    k0_pay1 a b w d (ix2 r l) = d (ix2 r l) + a (ix2 r l) * b (ix2 r 0) * w (ix2 0 l) := by
  pointwise [k0_pay1]

theorem off1_eq : ∀ k : Fin k0_t1_loop.trips, k0_off1 k = ![16 * k.val, 0] := by decide +kernel
theorem off2_eq : ∀ k : Fin k0_t1_loop.trips, k0_off2 k = ![16 * k.val, 0] := by decide +kernel

/-- Every store of the row loop leaves the output's own values where it lies. -/
theorem pb_all (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hk2 : k0_cond2 i = 1#1)
    (X3 : BufTy.Contents (Elt Ideal) a3.view.ty) (X4 : BufTy.Contents (Elt Ideal) a4.view.ty) (X9 : BufTy.Contents (Elt Ideal) a9.view.ty) (X10 : BufTy.Contents (Elt Ideal) a10.view.ty)
    (r : Fin 576) (l : Fin 4096) : ∀ n, n ≤ k0_t1_loop.trips →
    View.AllAt (pb_k0_t1 (F := Ideal) Variants.none c none i a1 h1 a2 h2 a3 h3 a4 h4 a5 h5 a6 h6 a7 h7 a8 h8 a9 h9 a10 h10 a11 h11 hk2 X3 X4 X9 X10 n) (ix2 r l)
      (yE (a3.view.read (Elt Ideal) X3) (a9.view.read (Elt Ideal) X9) (a4.view.read (Elt Ideal) X4) (a10.view.read (Elt Ideal) X10) r l)
  | 0, _ => View.allAt_nil _ _
  | n + 1, hn => by
    have ih := pb_all c i a1 h1 a2 h2 a3 h3 a4 h4 a5 h5 a6 h6 a7 h7 a8 h8 a9 h9 a10 h10 a11 h11 hk2 X3 X4 X9 X10 r l n (Nat.le_of_succ_le hn)
    rw [pb_k0_t1_succ Variants.none c none i a1 h1 a2 h2 a3 h3 a4 h4 a5 h5 a6 h6 a7 h7 a8 h8 a9 h9 a10 h10 a11 h11 hk2 X3 X4 X9 X10 ⟨n, hn⟩]
    unfold tripL_k0_t1 trip_k0_t1
    dsimp only
    rw [List.cons_append, List.nil_append]
    refine View.allAt_cons_unit _ _ _ _ _ (fun x hx => ?_) ih
    obtain ⟨xa, xb, rfl⟩ : ∃ xa xb, x = ix2 xa xb := ⟨x 0, x 1, eq_ix2 x⟩
    have e1 := off1_eq ⟨n, hn⟩
    have e2 := off2_eq ⟨n, hn⟩
    have hx0 := hx 0
    have hx1 := hx 1
    rw [e1] at hx0 hx1
    have g0 : r.val = 16 * n + xa.val := hx0
    have g1 : l.val = 0 + xb.val := hx1
    refine (pay1_apply _ _ _ _ xa xb).trans ?_
    unfold yE
    refine congrArg₂ (· + ·) ?_ (congrArg₂ (· * ·) (congrArg₂ (· * ·) ?_ ?_) ?_)
    · exact View.ld_unit_apply_of _ _ _ _ _ _ hx
    · exact View.ld_unit_apply_of _ _ _ _ _ _ hx
    · refine View.ld_unit_apply_of _ _ _ _ _ _ (fun a => ?_)
      fin_cases a
      · exact g0.trans (congrArg (· + xa.val) (congrFun e2 0).symm)
      · exact (Nat.zero_add 0).symm.trans (congrArg (· + 0) (congrFun e2 1).symm)
    · refine View.ld_unit_apply_of _ _ _ _ _ _ (fun a => ?_)
      fin_cases a
      · rfl
      · exact g1

theorem trips36 : k0_t1_loop.trips = 36 := by decide +kernel

theorem mem_rows {n : ℕ} {off : Fin S576x4096.rank → ℕ} (e : off = ![16 * n, 0]) (inb : ∀ a, off a + (![16, 4096] : Fin S576x4096.rank → ℕ) a ≤ S576x4096.size a)
    (r : Fin 576) (l : Fin 4096) (h0 : 16 * n ≤ r.val) (h1 : r.val < 16 * (n + 1)) :
    (ix2 r l : S576x4096.Idx) ∈ (Rect.unit (s := S576x4096) off ![16, 4096] inb).set := by
  subst e
  refine Rect.mem_set_unit.mpr fun a => ?_
  fin_cases a
  · exact ⟨h0, h1⟩
  · exact ⟨Nat.zero_le _, (Nat.zero_add 4096).symm ▸ l.isLt⟩

/-- The stores of the first `n` trips cover the first `16·n` rows. -/
theorem pb_cov (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hk2 : k0_cond2 i = 1#1)
    (X3 : BufTy.Contents (Elt Ideal) a3.view.ty) (X4 : BufTy.Contents (Elt Ideal) a4.view.ty) (X9 : BufTy.Contents (Elt Ideal) a9.view.ty) (X10 : BufTy.Contents (Elt Ideal) a10.view.ty)
    (r : Fin 576) (l : Fin 4096) : ∀ n, n ≤ k0_t1_loop.trips → r.val < 16 * n →
    ∃ p ∈ pb_k0_t1 (F := Ideal) Variants.none c none i a1 h1 a2 h2 a3 h3 a4 h4 a5 h5 a6 h6 a7 h7 a8 h8 a9 h9 a10 h10 a11 h11 hk2 X3 X4 X9 X10 n, (ix2 r l : S576x4096.Idx) ∈ p.1.set
  | 0, _, h => absurd h (by omega)
  | n + 1, hn, h => by
    have ih := pb_cov c i a1 h1 a2 h2 a3 h3 a4 h4 a5 h5 a6 h6 a7 h7 a8 h8 a9 h9 a10 h10 a11 h11 hk2 X3 X4 X9 X10 r l n (Nat.le_of_succ_le hn)
    rw [pb_k0_t1_succ Variants.none c none i a1 h1 a2 h2 a3 h3 a4 h4 a5 h5 a6 h6 a7 h7 a8 h8 a9 h9 a10 h10 a11 h11 hk2 X3 X4 X9 X10 ⟨n, hn⟩]
    unfold tripL_k0_t1 trip_k0_t1
    dsimp only
    rw [List.cons_append, List.nil_append]
    by_cases hr : r.val < 16 * n
    · obtain ⟨p, hp, hm⟩ := ih hr
      exact ⟨p, List.mem_cons_of_mem _ hp, hm⟩
    · refine ⟨_, List.mem_cons_self, ?_⟩
      have inb : ∀ a, k0_off1 ⟨n, hn⟩ a + (![16, 4096] : Fin S576x4096.rank → ℕ) a ≤ S576x4096.size a := by
        have hn' := hn
        rw [trips36] at hn'
        rw [off1_eq ⟨n, hn⟩]
        intro a
        fin_cases a
        · show 16 * n + 16 ≤ 576
          omega
        · exact le_refl 4096
      exact mem_rows (off1_eq ⟨n, hn⟩) inb r l (not_lt.mp hr) h

/-- What the row loop leaves in the output. -/
theorem y_loop (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hk2 : k0_cond2 i = 1#1)
    (X3 : BufTy.Contents (Elt Ideal) a3.view.ty) (X4 : BufTy.Contents (Elt Ideal) a4.view.ty) (X9 : BufTy.Contents (Elt Ideal) a9.view.ty) (X10 : BufTy.Contents (Elt Ideal) a10.view.ty)
    (r : Fin 576) (l : Fin 4096) :
    View.canon (Val := Elt Ideal) (pb_k0_t1 (F := Ideal) Variants.none c none i a1 h1 a2 h2 a3 h3 a4 h4 a5 h5 a6 h6 a7 h7 a8 h8 a9 h9 a10 h10 a11 h11 hk2 X3 X4 X9 X10 k0_t1_loop.trips) (ix2 r l)
      = yE (a3.view.read (Elt Ideal) X3) (a9.view.read (Elt Ideal) X9) (a4.view.read (Elt Ideal) X4) (a10.view.read (Elt Ideal) X10) r l :=
  View.canon_eq_of_allAt _ _ _
    (pb_cov c i a1 h1 a2 h2 a3 h3 a4 h4 a5 h5 a6 h6 a7 h7 a8 h8 a9 h9 a10 h10 a11 h11 hk2 X3 X4 X9 X10 r l _ (le_refl k0_t1_loop.trips) (lt_of_lt_of_eq r.isLt (by rw [trips36])))
    (pb_all c i a1 h1 a2 h2 a3 h3 a4 h4 a5 h5 a6 h6 a7 h7 a8 h8 a9 h9 a10 h10 a11 h11 hk2 X3 X4 X9 X10 r l _ (le_refl k0_t1_loop.trips))

theorem y_step (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hk2 : k0_cond2 i = 1#1) (x0 : Vec Ideal S576x1024 .f32) (x1 : Vec Ideal S576x128 .f32) (x2 : Vec Ideal S576x4096 .f32) (x3 : Vec Ideal S1x4096 .f32) (x4 : Vec Ideal S1024x4096 .i8) (L : List (View.Piece (Elt Ideal) S576x4096 .f32)) (f : BufTy.Contents (Elt Ideal) a9.view.ty) (xs1 : Vec Ideal S576x128 .f32)
    (hL : a9.view.read (Elt Ideal) (a9.view.writes (Elt Ideal) f L) = View.canon (Val := Elt Ideal) L) (r : Fin 576) (l : Fin 4096) :
    View.canon (Val := Elt Ideal) (pb_k0_t1 (F := Ideal) Variants.none c none i a1 h1 a2 h2 a3 h3 a4 h4 a5 h5 a6 h6 a7 h7 a8 h8 a9 h9 a10 h10 a11 h11 hk2 (h3.unread x2) (h4.unread x3) (a9.view.writes (Elt Ideal) f L) (h10.unread xs1) k0_t1_loop.trips) (ix2 r l)
      = yE x2 (View.canon (Val := Elt Ideal) L) x3 xs1 r l := by
  rw [y_loop c i a1 h1 a2 h2 a3 h3 a4 h4 a5 h5 a6 h6 a7 h7 a8 h8 a9 h9 a10 h10 a11 h11 hk2, h3.read_unread, h4.read_unread, h10.read_unread, hL]

/-- The output the last point leaves. -/
theorem out_C_5 (c : Dev nD) (i : grid0.Coords) (a1 : Memref sig .tc .vmem S576x1024 .f32) (h1 : a1.IsWhole) (a2 : Memref sig .tc .vmem S576x128 .f32) (h2 : a2.IsWhole) (a3 : Memref sig .tc .vmem S576x4096 .f32) (h3 : a3.IsWhole) (a4 : Memref sig .tc .vmem S1x4096 .f32) (h4 : a4.IsWhole) (a5 : Memref sig .tc .vmem S1024x4096 .i8) (h5 : a5.IsWhole) (a6 : Memref sig .tc .vmem S576x4096 .bf16) (h6 : a6.IsWhole) (a7 : Memref sig .tc .vmem S576x1024 .i8) (h7 : a7.IsWhole) (a8 : Memref sig .tc .vmem S12x48 .f32) (h8 : a8.IsWhole) (a9 : Memref sig .tc .vmem S576x4096 .f32) (h9 : a9.IsWhole) (a10 : Memref sig .tc .vmem S576x128 .f32) (h10 : a10.IsWhole) (a11 : Memref sig .tc .vmem S576x128 .f32) (h11 : a11.IsWhole) (hc0 : ¬cond0_0 i) (hc1 : cond0_1 i)
    (x0 : Vec Ideal S576x1024 .f32) (x1 : Vec Ideal S576x128 .f32) (x2 : Vec Ideal S576x4096 .f32) (x3 : Vec Ideal S1x4096 .f32) (x4 : Vec Ideal S1024x4096 .i8) (xs0 : Vec Ideal S576x4096 .f32) (xs1 : Vec Ideal S576x128 .f32) (xs2 : Vec Ideal S576x128 .f32) (r : Fin 576) (l : Fin 4096) :
    out0_C_5 c i a1 h1 a2 h2 a3 h3 a4 h4 a5 h5 a6 h6 a7 h7 a8 h8 a9 h9 a10 h10 a11 h11 hc0 hc1 x0 x1 x2 x3 x4 xs0 xs1 xs2 (ix2 r l) = yE x2 (sout0_C_0 c i a1 h1 a2 h2 a3 h3 a4 h4 a5 h5 a6 h6 a7 h7 a8 h8 a9 h9 a10 h10 a11 h11 hc0 hc1 x0 x1 x2 x3 x4 xs0 xs1 xs2) x3 xs1 r l := by
  frame_out
  exact y_step c i a1 h1 a2 h2 a3 h3 a4 h4 a5 h5 a6 h6 a7 h7 a8 h8 a9 h9 a10 h10 a11 h11 _ x0 x1 x2 x3 x4 _ _ xs1 (View.read_writes_junk_eq_canon _ _) r l

end Cert.KDownIdeal.Hand
-- ==== Proof.DownSpec.lean ====
/-
  The down call's mathematics: row scales, codes and the dequantised product with its residual.
-/
module

public import proofs.«01_k».proof.Proof.DownMath

@[expose] public section

set_option maxRecDepth 16384

noncomputable section

open Idealize.ShloMosaic Idealize.ShloMosaic.TcCoe Idealize.SL.Sem
open Idealize.ShloMosaic.Pipeline (Dat)

namespace Cert.Proof.Down

/-- The scale of row `r`: the largest lane maximum over 127, or one. -/
def rowS (AM : Fin 576 → Fin 128 → EReal) (r : Fin 576) : EReal :=
  scaleS ((Finset.univ : Finset (Fin 128)).fold max (Ideal.ofBits .f32 0xFF800000#32) (fun j => AM r j))

/-- The code of one activation. -/
def rowC (A : Fin 576 → Fin 12288 → EReal) (AM : Fin 576 → Fin 128 → EReal) (r : Fin 576) (k : Fin 12288) : BitVec 8 := code (A r k) (rowS AM r)

/-- One product of the dot, by its feature as a number. -/
def term (A : Fin 576 → Fin 12288 → EReal) (AM : Fin 576 → Fin 128 → EReal) (W : Fin 12288 → Fin 4096 → BitVec 8) (r : Fin 576) (l : Fin 4096) (k : ℕ) : EReal :=
  if h : k < 12288 then (((rowC A AM r ⟨k, h⟩).toInt : ℝ) : EReal) * (((W ⟨k, h⟩ l).toInt : ℝ) : EReal) else 0

/-- One entry of the layer's output. -/
def yS (A : Fin 576 → Fin 12288 → EReal) (AM : Fin 576 → Fin 128 → EReal) (H : Fin 576 → Fin 4096 → EReal) (S : Fin 4096 → EReal)
    (W : Fin 12288 → Fin 4096 → BitVec 8) (r : Fin 576) (l : Fin 4096) : EReal :=
  H r l + (∑ k : Fin 12288, (((rowC A AM r k).toInt : ℝ) : EReal) * (((W k l).toInt : ℝ) : EReal)) * rowS AM r * S l

theorem partSum_term (A : Fin 576 → Fin 12288 → EReal) (AM : Fin 576 → Fin 128 → EReal) (W : Fin 12288 → Fin 4096 → BitVec 8) (r : Fin 576) (l : Fin 4096) :
    partSum (term A AM W r l) 12 = ∑ k : Fin 12288, (((rowC A AM r k).toInt : ℝ) : EReal) * (((W k l).toInt : ℝ) : EReal) :=
  partSum_all _ _ fun k => by
    unfold term
    rw [dif_pos k.isLt]

end Cert.Proof.Down

end
-- ==== Proof.DownFold.lean ====
/-
  The down call over its grid: the three output arrays in closed form.
-/
module

public import proofs.«01_k».proof.Proof.DownCaseA
public import proofs.«01_k».proof.Proof.DownCaseY
public import proofs.«01_k».proof.Proof.DownSpec

@[expose] public section

set_option maxRecDepth 16384

noncomputable section

open Idealize.ShloMosaic Idealize.ShloMosaic.TcCoe Idealize.SL.Sem
open Idealize.ShloMosaic.Pipeline (Dat)

namespace Cert.KDownIdeal.Hand

open Cert.KDownIdeal Cert.KDownIdeal.Gen Cert.Proof.Down

variable (m : (ℓ : Loc nD τ sig) → Buf (Elt Ideal) ℓ)

/-- The five arguments as the arrays the formulas read. -/
def aA (c : Dev nD) (r : Fin 576) (k : Fin 12288) : EReal := (m ((c : Thread nD τ).loc main_arg0) : Vec Ideal S576x12288 .f32) (ix2 r k)
def aM (c : Dev nD) (r : Fin 576) (l : Fin 128) : EReal := (m ((c : Thread nD τ).loc main_arg1) : Vec Ideal S576x128 .f32) (ix2 r l)
def aH (c : Dev nD) (r : Fin 576) (l : Fin 4096) : EReal := (m ((c : Thread nD τ).loc main_arg2) : Vec Ideal S576x4096 .f32) (ix2 r l)
def aS (c : Dev nD) (l : Fin 4096) : EReal := (m ((c : Thread nD τ).loc main_arg3) : Vec Ideal S1x4096 .f32) (ix2 0 l)
def aW (c : Dev nD) (k : Fin 12288) (l : Fin 4096) : BitVec 8 := (m ((c : Thread nD τ).loc main_arg4) : Vec Ideal S12288x4096 .i8) (ix2 k l)

theorem ixs0 : ∀ t : Fin cfg0.N, win0_0.index t = ![0, t.val] := (by decide +kernel : ∀ t : Fin grid0.N, _)
theorem ixs1 : ∀ t : Fin cfg0.N, win0_1.index t = ![0, 0] := (by decide +kernel : ∀ t : Fin grid0.N, _)
theorem ixs2 : ∀ t : Fin cfg0.N, win0_2.index t = ![0, 0] := (by decide +kernel : ∀ t : Fin grid0.N, _)
theorem ixs3 : ∀ t : Fin cfg0.N, win0_3.index t = ![0, 0] := (by decide +kernel : ∀ t : Fin grid0.N, _)
theorem ixs4 : ∀ t : Fin cfg0.N, win0_4.index t = ![t.val, 0] := (by decide +kernel : ∀ t : Fin grid0.N, _)
theorem ixs5 : ∀ t : Fin cfg0.N, win0_5.index t = ![0, 0] := (by decide +kernel : ∀ t : Fin grid0.N, _)
theorem ixs6 : ∀ t : Fin cfg0.N, win0_6.index t = ![0, t.val] := (by decide +kernel : ∀ t : Fin grid0.N, _)
theorem ixs7 : ∀ t : Fin cfg0.N, win0_7.index t = ![0, 0] := (by decide +kernel : ∀ t : Fin grid0.N, _)
theorem flush5 : ∀ t : Fin cfg0.N, (cfg0.win 5).flush t = true → t.val = 11 := (by decide +kernel : ∀ t : Fin grid0.N, _)

theorem N12 (t : Fin cfg0.N) : t.val < 12 := lt_of_lt_of_eq t.isLt N_0

theorem blk0 (c : Dev nD) (t : Fin cfg0.N) (r : Fin 576) (k : Fin 1024) (h : 1024 * t.val + k.val < 12288) :
    (iblk m c 0 t : Vec Ideal S576x1024 .f32) (ix2 r k) = aA m c r ⟨1024 * t.val + k.val, h⟩ := by
  have e := ixs0 t
  unfold aA
  blk_simp [iblk, V_main_arg0, e]
  refine congrArg (m ((c : Thread nD τ).loc main_arg0)) ?_
  blk_ext [e]

theorem blk1 (c : Dev nD) (t : Fin cfg0.N) (r : Fin 576) (l : Fin 128) :
    (iblk m c 1 t : Vec Ideal S576x128 .f32) (ix2 r l) = aM m c r l := by
  have e := ixs1 t
  unfold aM
  blk_simp [iblk, V_main_arg1, e]
  refine congrArg (m ((c : Thread nD τ).loc main_arg1)) ?_
  blk_ext [e]

theorem blk2 (c : Dev nD) (t : Fin cfg0.N) (r : Fin 576) (l : Fin 4096) :
    (iblk m c 2 t : Vec Ideal S576x4096 .f32) (ix2 r l) = aH m c r l := by
  have e := ixs2 t
  unfold aH
  blk_simp [iblk, V_main_arg2, e]
  refine congrArg (m ((c : Thread nD τ).loc main_arg2)) ?_
  blk_ext [e]

theorem blk3 (c : Dev nD) (t : Fin cfg0.N) (l : Fin 4096) :
    (iblk m c 3 t : Vec Ideal S1x4096 .f32) (ix2 0 l) = aS m c l := by
  have e := ixs3 t
  unfold aS
  blk_simp [iblk, V_main_arg3, e]
  refine congrArg (m ((c : Thread nD τ).loc main_arg3)) ?_
  blk_ext [e]

theorem blk4 (c : Dev nD) (t : Fin cfg0.N) (k : Fin 1024) (l : Fin 4096) (h : 1024 * t.val + k.val < 12288) :
    (iblk m c 4 t : Vec Ideal S1024x4096 .i8) (ix2 k l) = aW m c ⟨1024 * t.val + k.val, h⟩ l := by
  have e := ixs4 t
  unfold aW
  blk_simp [iblk, V_main_arg4, e]
  refine congrArg (m ((c : Thread nD τ).loc main_arg4)) ?_
  blk_ext [e]

theorem top_eq (c : Dev nD) (t : Fin cfg0.N) (r : Fin 576) : scaleS (topR (iblk m c 1 t) r) = rowS (aM m c) r := by
  unfold topR rowS
  simp only [blk1 m c t]

theorem col_eq (c : Dev nD) (t : Fin cfg0.N) : colD (iblk m c 1 t) = fun j => rowS (aM m c) (j 0) := funext fun j => top_eq m c t (j 0)
theorem inv_eq (c : Dev nD) (t : Fin cfg0.N) : invD (iblk m c 1 t) = fun j => Ideal.div 1 (rowS (aM m c) (j 0)) :=
  funext fun j => congrArg (Ideal.div 1) (top_eq m c t (j 0))

/-- The clipped rounded quotient of the kernel is the one of the division. -/
theorem cB_eq (c : Dev nD) (t : Fin cfg0.N) (inv : Vec Ideal S576x128 .f32) (hi : inv = fun j => Ideal.div 1 (rowS (aM m c) (j 0)))
    (r : Fin 576) (k : Fin 1024) (h : 1024 * t.val + k.val < 12288) :
    cB (iblk m c 0 t) inv r k = clip (Ideal.div (aA m c r ⟨1024 * t.val + k.val, h⟩) (rowS (aM m c) r)) := by
  subst hi
  unfold cB
  rw [blk0 m c t r k h]
  exact congrArg clip (mul_recip _ _ (scaleS_ne _))

theorem code_eq (c : Dev nD) (t : Fin cfg0.N) (inv : Vec Ideal S576x128 .f32) (hi : inv = fun j => Ideal.div 1 (rowS (aM m c) (j 0)))
    (r : Fin 576) (k : Fin 1024) (h : 1024 * t.val + k.val < 12288) :
    Ideal.fptosi 8 (cB (iblk m c 0 t) inv r k) = rowC (aA m c) (aM m c) r ⟨1024 * t.val + k.val, h⟩ := by
  rw [cB_eq m c t inv hi r k h]
  rfl

theorem acc_eq (c : Dev nD) (t : Fin cfg0.N) (inv : Vec Ideal S576x128 .f32) (hi : inv = fun j => Ideal.div 1 (rowS (aM m c) (j 0)))
    (r : Fin 576) (l : Fin 4096) (old : EReal) (hold : old = partSum (term (aA m c) (aM m c) (aW m c) r l) t.val) :
    old + accB (iblk m c 0 t) inv (iblk m c 4 t) r l = partSum (term (aA m c) (aM m c) (aW m c) r l) (t.val + 1) := by
  have ht := N12 t
  rw [hold]
  unfold accB
  refine (partSum_succ _ _ _ fun k => ?_).symm
  have h : 1024 * t.val + k.val < 12288 := by omega
  rw [cB_eq m c t inv hi r k h, blk4 m c t k l h]
  unfold term
  rw [dif_pos h]
  exact congrArg (· * _) (code_num _ _).symm

/-- The state after point `n`. -/
theorem outs_eq (c : Dev nD) (n : ℕ) (hn : n < cfg0.N) :
    (outsAt0 m c n hn).2.2.2.2.1 = (fun j => rowS (aM m c) (j 0))
    ∧ (outsAt0 m c n hn).2.2.2.2.2 = (fun j => Ideal.div 1 (rowS (aM m c) (j 0)))
    ∧ (∀ (r : Fin 576) (l : Fin 4096), (outsAt0 m c n hn).2.2.2.1 (ix2 r l) = partSum (term (aA m c) (aM m c) (aW m c) r l) (n + 1))
    ∧ (∀ (b : Fin 12) (q : Fin 48), (outsAt0 m c n hn).2.2.1 (ix2 b q) = rowS (aM m c) ⟨48 * b.val + q.val, by omega⟩)
    ∧ (∀ (r : Fin 576) (k : Fin 1024) (h : 1024 * n + k.val < 12288), (outsAt0 m c n hn).2.1 (ix2 r k) = rowC (aA m c) (aM m c) r ⟨1024 * n + k.val, h⟩)
    ∧ (n = 11 → ∀ (r : Fin 576) (l : Fin 4096), (outsAt0 m c n hn).1 (ix2 r l) = yS (aA m c) (aM m c) (aH m c) (aS m c) (aW m c) r l) := by
  induction n with
  | zero =>
    rw [outsAt0_A m c ⟨0, hn⟩ (Nat.zero_mod _) (show ¬(0 % 12 = 11) by decide)]
    refine ⟨?_, ?_, fun r l => ?_, fun b q => ?_, fun r k h => ?_, fun h => absurd h (by decide)⟩
    · dsimp only
      rw [sout_A_1, col_eq]
    · dsimp only
      rw [sout_A_2, inv_eq]
    · dsimp only
      rw [sout_A]
      exact acc_eq m c ⟨0, hn⟩ _ (inv_eq m c ⟨0, hn⟩) r l 0 (partSum_zero _).symm
    · dsimp only
      rw [out_A_7]
      exact top_eq m c ⟨0, hn⟩ _
    · dsimp only
      rw [out_A_6]
      exact code_eq m c ⟨0, hn⟩ _ (inv_eq m c ⟨0, hn⟩) r k h
  | succ n ih =>
    have hN := lt_of_lt_of_eq hn (show cfg0.N = 12 from N_0)
    obtain ⟨i1, i2, i3, i4, i5, i6⟩ := ih (Nat.lt_of_succ_lt hn)
    by_cases h11 : (n + 1) % 12 = 11
    · rw [outsAt0_C m c ⟨n + 1, hn⟩ (by dsimp only; omega) h11]
      have hacc : ∀ (r : Fin 576) (l : Fin 4096), _ = partSum (term (aA m c) (aM m c) (aW m c) r l) (n + 1 + 1) := fun r l =>
        acc_eq m c ⟨n + 1, hn⟩ _ i2 r l _ (i3 r l)
      refine ⟨i1, i2, fun r l => ?_, i4, fun r k h => ?_, fun hn11 r l => ?_⟩
      · dsimp only
        rw [sout_C]
        exact hacc r l
      · dsimp only
        rw [out_C_6]
        exact code_eq m c ⟨n + 1, hn⟩ _ i2 r k h
      · dsimp only
        rw [out_C_5]
        unfold yE yS
        rw [sout_C]
        refine congrArg₂ (· + ·) (blk2 m c _ r l) (congrArg₂ (· * ·) (congrArg₂ (· * ·) ?_ ?_) (blk3 m c _ l))
        · rw [← partSum_term]
          refine (hacc r l).trans ?_
          rw [hn11]
        · exact congrFun i1 (ix2 r 0)
    · rw [outsAt0_B m c ⟨n + 1, hn⟩ (by dsimp only; omega) h11]
      refine ⟨i1, i2, fun r l => ?_, i4, fun r k h => ?_, fun hn11 => absurd hn11 (by omega)⟩
      · dsimp only
        rw [sout_B]
        exact acc_eq m c ⟨n + 1, hn⟩ _ i2 r l _ (i3 r l)
      · dsimp only
        rw [out_B_6]
        exact code_eq m c ⟨n + 1, hn⟩ _ i2 r k h

/-- The output after the run. -/
theorem y_final (c : Dev nD) :
    (dats m 0 c).arrAt 5 cfg0.N = (fun i => yS (aA m c) (aM m c) (aH m c) (aS m c) (aW m c) (i 0) (i 1) : Vec Ideal S576x4096 .bf16) := by
  refine (dats m 0 c).arrAt_eq_of_covers 5 _ (by decide +kernel) fun t hf y => ?_
  have e := ixs5 t
  obtain ⟨r, l, rfl⟩ : ∃ (r : Fin 576) (l : Fin 4096), y = ix2 r l := ⟨y 0, y 1, eq_ix2 y⟩
  rw [after0_5]
  refine ((outs_eq m c t.val t.isLt).2.2.2.2.2 (flush5 t hf) r l).trans ?_
  refine congr (congrArg (yS (aA m c) (aM m c) (aH m c) (aS m c) (aW m c)) (Fin.ext ?_)) (Fin.ext ?_)
  · blk_simp [e]
  · blk_simp [e]

/-- The codes after the run. -/
theorem codes_final (c : Dev nD) :
    (dats m 0 c).arrAt 6 cfg0.N = (fun i => rowC (aA m c) (aM m c) (i 0) (i 1) : Vec Ideal S576x12288 .i8) := by
  refine (dats m 0 c).arrAt_eq_of_covers 6 _ (by decide +kernel) fun t hf y => ?_
  have e := ixs6 t
  have ht := N12 t
  obtain ⟨r, l, rfl⟩ : ∃ (r : Fin 576) (l : Fin 1024), y = ix2 r l := ⟨y 0, y 1, eq_ix2 y⟩
  rw [after0_6]
  refine ((outs_eq m c t.val t.isLt).2.2.2.2.1 r l (by omega)).trans ?_
  refine congr (congrArg (rowC (aA m c) (aM m c)) (Fin.ext ?_)) (Fin.ext ?_)
  · blk_simp [e]
  · blk_simp [e]
    dsimp only
    omega

/-- The scales after the run. -/
theorem scales_final (c : Dev nD) :
    (dats m 0 c).arrAt 7 cfg0.N
      = (fun i => rowS (aM m c) ⟨48 * (i 0).val + (i 1).val, by have h0 : (i 0).val < 12 := (i 0).isLt; have h1 : (i 1).val < 48 := (i 1).isLt; omega⟩ : Vec Ideal S12x48 .f32) := by
  refine (dats m 0 c).arrAt_eq_of_covers 7 _ (by decide +kernel) fun t hf y => ?_
  have e := ixs7 t
  obtain ⟨b, q, rfl⟩ : ∃ (b : Fin 12) (q : Fin 48), y = ix2 b q := ⟨y 0, y 1, eq_ix2 y⟩
  rw [after0_7]
  refine ((outs_eq m c t.val t.isLt).2.2.2.1 b q).trans ?_
  refine congrArg (rowS (aM m c)) (Fin.ext ?_)
  blk_simp [e]

end Cert.KDownIdeal.Hand

end
-- ==== Proof.DownRef.lean ====
/-
  The down reference: its three results in closed form.
-/
module

public import proofs.«01_k».proof.Proof.Gen.RDownIdeal.Value
public import proofs.«01_k».proof.Proof.DownSpec
public import Idealize.ShloMosaic.Lib.Pipeline.ValueKit.Tiles
public import Idealize.ShloMosaic.Lib.Pipeline.ValueKit.Geometry
public import Idealize.ShloMosaic.Lib.Pointwise
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.RDownIdeal.Hand

open Cert.RDownIdeal Cert.RDownIdeal.Gen Cert.RDownIdeal.Value Cert.Proof.Down

/-- The scale of every row, as the host operations compute it. -/
def hostS (x : Vec Ideal S576x128 .f32) : Vec Ideal S576 .f32 :=
  select (cmpf (φ := .f32) .ogt (Host.reduce FloatOps.maximumf x (constant (F := Ideal) S_ .f32 0xFF800000#32) reducesTo_S576x128_S576_d1 h_S_)
      (broadcastInDim S576 ![] bcast_S_S576 (constant (F := Ideal) S_ .f32 0x00000000#32)))
    (Host.divf (φ := .f32) (Host.reduce FloatOps.maximumf x (constant (F := Ideal) S_ .f32 0xFF800000#32) reducesTo_S576x128_S576_d1 h_S_)
      (broadcastInDim S576 ![] bcast_S_S576 (constant (F := Ideal) S_ .f32 0x42FE0000#32)))
    (broadcastInDim S576 ![] bcast_S_S576 (constant (F := Ideal) S_ .f32 0x3F800000#32))

theorem hostMax (x : Vec Ideal S576x128 .f32) (r : Fin 576) :
    Host.reduce FloatOps.maximumf x (constant (F := Ideal) S_ .f32 0xFF800000#32) reducesTo_S576x128_S576_d1 h_S_ (ix1 r)
      = (Finset.univ : Finset (Fin 128)).fold max (Ideal.ofBits .f32 0xFF800000#32) (fun j => x (ix2 r j)) := by
  pointwise

theorem hostS_apply (x : Vec Ideal S576x128 .f32) (r : Fin 576) : hostS x (ix1 r) = rowS (fun r l => x (ix2 r l)) r := by
  have e := hostMax x r
  unfold hostS rowS
  rw [← e]
  generalize Host.reduce FloatOps.maximumf x (constant (F := Ideal) S_ .f32 0xFF800000#32) reducesTo_S576x128_S576_d1 h_S_ = p
  pointwise [scaleS]
  rw [c127]

theorem pay1_apply (x0 : Vec Ideal S576x12288 .f32) (x1 : Vec Ideal S576x1 .f32) (r : Fin 576) (k : Fin 12288) :
    k0_pay1 x0 x1 (ix2 r k) = code (x0 (ix2 r k)) (x1 (ix2 r 0)) := by
  pointwise [k0_pay1, code, clip]
  rw [c127, cm127]
  rfl

theorem pay2_apply (x0 : Vec Ideal S576x12288 .f32) (x1 : Vec Ideal S576x1 .f32) (w : Vec Ideal S12288x4096 .i8) (s : Vec Ideal S1x4096 .f32) (h : Vec Ideal S576x4096 .f32)
    (r : Fin 576) (l : Fin 4096) :
    k0_pay2 x0 x1 w x1 s h (ix2 r l)
      = h (ix2 r l) + (∑ k : Fin 12288, (((k0_pay1 x0 x1 (ix2 r k)).toInt : ℝ) : EReal) * (((w (ix2 k l)).toInt : ℝ) : EReal)) * x1 (ix2 r 0) * s (ix2 0 l) := by
  unfold k0_pay2
  generalize k0_pay1 x0 x1 = p
  pointwise
  rfl

theorem out6_apply (x0 : Vec Ideal S576x12288 .f32) (x1 : Vec Ideal S576x1 .f32) (x2 : Vec Ideal S576x4096 .f32) (x3 : Vec Ideal S1x4096 .f32) (x4 : Vec Ideal S12288x4096 .i8)
    (r : Fin 576) (k : Fin 12288) : out0_6 x0 x1 x2 x3 x4 (ix2 r k) = code (x0 (ix2 r k)) (x1 (ix2 r 0)) := by
  frame_out
  exact pay1_apply ..

theorem out5_apply (x0 : Vec Ideal S576x12288 .f32) (x1 : Vec Ideal S576x1 .f32) (x2 : Vec Ideal S576x4096 .f32) (x3 : Vec Ideal S1x4096 .f32) (x4 : Vec Ideal S12288x4096 .i8)
    (r : Fin 576) (l : Fin 4096) : out0_5 x0 x1 x2 x3 x4 (ix2 r l)
      = x2 (ix2 r l) + (∑ k : Fin 12288, (((code (x0 (ix2 r k)) (x1 (ix2 r 0))).toInt : ℝ) : EReal) * (((x4 (ix2 k l)).toInt : ℝ) : EReal)) * x1 (ix2 r 0) * x3 (ix2 0 l) := by
  frame_out
  rw [pay2_apply]
  simp only [pay1_apply]

variable (m : (ℓ : Loc nD τ sig) → Buf (Elt Ideal) ℓ)

/-- The five arguments as the arrays the formulas read. -/
def aA (c : Dev nD) (r : Fin 576) (k : Fin 12288) : EReal := (m ((c : Thread nD τ).loc main_arg0) : Vec Ideal S576x12288 .f32) (ix2 r k)
def aM (c : Dev nD) (r : Fin 576) (l : Fin 128) : EReal := (m ((c : Thread nD τ).loc main_arg1) : Vec Ideal S576x128 .f32) (ix2 r l)
def aH (c : Dev nD) (r : Fin 576) (l : Fin 4096) : EReal := (m ((c : Thread nD τ).loc main_arg2) : Vec Ideal S576x4096 .f32) (ix2 r l)
def aS (c : Dev nD) (l : Fin 4096) : EReal := (m ((c : Thread nD τ).loc main_arg3) : Vec Ideal S1x4096 .f32) (ix2 0 l)
def aW (c : Dev nD) (k : Fin 12288) (l : Fin 4096) : BitVec 8 := (m ((c : Thread nD τ).loc main_arg4) : Vec Ideal S12288x4096 .i8) (ix2 k l)

theorem ixs0 : ∀ t : Fin cfg0.N, win0_0.index t = ![0, 0] := (by decide +kernel : ∀ t : Fin grid0.N, _)
theorem ixs1 : ∀ t : Fin cfg0.N, win0_1.index t = ![0, 0] := (by decide +kernel : ∀ t : Fin grid0.N, _)
theorem ixs2 : ∀ t : Fin cfg0.N, win0_2.index t = ![0, 0] := (by decide +kernel : ∀ t : Fin grid0.N, _)
theorem ixs3 : ∀ t : Fin cfg0.N, win0_3.index t = ![0, 0] := (by decide +kernel : ∀ t : Fin grid0.N, _)
theorem ixs4 : ∀ t : Fin cfg0.N, win0_4.index t = ![0, 0] := (by decide +kernel : ∀ t : Fin grid0.N, _)
theorem ixs5 : ∀ t : Fin cfg0.N, win0_5.index t = ![0, 0] := (by decide +kernel : ∀ t : Fin grid0.N, _)
theorem ixs6 : ∀ t : Fin cfg0.N, win0_6.index t = ![0, 0] := (by decide +kernel : ∀ t : Fin grid0.N, _)

theorem V_v6 (c : Dev nD) : (V m c main_v6 : Vec Ideal S12x48 .f32)
    = shapeCast S12x48 (hostS (m ((c : Thread nD τ).loc main_arg1) : Vec Ideal S576x128 .f32)) shapeCasts_S576_S12x48 := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append, List.nil_append]
  after_results
  simp only [StableHlo.TRef.ofBuf, StableHlo.TRef.toBuf, id, StableHlo.dropContentsCast]
  rfl

theorem V_v7 (c : Dev nD) : (V m c main_v7 : Vec Ideal S576x1 .f32)
    = broadcastInDim S576x1 ![0] bcast_S576_S576x1_0 (hostS (m ((c : Thread nD τ).loc main_arg1) : Vec Ideal S576x128 .f32)) := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append, List.nil_append]
  after_results
  simp only [StableHlo.TRef.ofBuf, StableHlo.TRef.toBuf, id, StableHlo.dropContentsCast]
  rfl

theorem blk0 (c : Dev nD) (t : Fin cfg0.N) (r : Fin 576) (k : Fin 12288) :
    (iblk m c 0 t : Vec Ideal S576x12288 .f32) (ix2 r k) = aA m c r k := by
  have e := ixs0 t
  unfold aA
  rw [← V_main_arg0 m c]
  blk_simp [iblk, e]
  refine congrArg (V m c main_arg0) ?_
  blk_ext [e]

theorem blk1 (c : Dev nD) (t : Fin cfg0.N) (r : Fin 576) :
    (iblk m c 1 t : Vec Ideal S576x1 .f32) (ix2 r 0) = rowS (aM m c) r := by
  have e := ixs1 t
  have e' : (V m c main_v7 : Vec Ideal S576x1 .f32) (ix2 r 0) = rowS (aM m c) r := by
    rw [V_v7]
    refine Eq.trans ?_ (hostS_apply (m ((c : Thread nD τ).loc main_arg1) : Vec Ideal S576x128 .f32) r)
    generalize hostS (m ((c : Thread nD τ).loc main_arg1) : Vec Ideal S576x128 .f32) = p
    pointwise
  rw [← e']
  blk_simp [iblk, e]
  refine congrArg (V m c main_v7) ?_
  blk_ext [e]

theorem blk2 (c : Dev nD) (t : Fin cfg0.N) (r : Fin 576) (l : Fin 4096) :
    (iblk m c 2 t : Vec Ideal S576x4096 .f32) (ix2 r l) = aH m c r l := by
  have e := ixs2 t
  unfold aH
  rw [← V_main_arg2 m c]
  blk_simp [iblk, e]
  refine congrArg (V m c main_arg2) ?_
  blk_ext [e]

theorem blk3 (c : Dev nD) (t : Fin cfg0.N) (l : Fin 4096) :
    (iblk m c 3 t : Vec Ideal S1x4096 .f32) (ix2 0 l) = aS m c l := by
  have e := ixs3 t
  unfold aS
  rw [← V_main_arg3 m c]
  blk_simp [iblk, e]
  refine congrArg (V m c main_arg3) ?_
  blk_ext [e]

theorem blk4 (c : Dev nD) (t : Fin cfg0.N) (k : Fin 12288) (l : Fin 4096) :
    (iblk m c 4 t : Vec Ideal S12288x4096 .i8) (ix2 k l) = aW m c k l := by
  have e := ixs4 t
  unfold aW
  rw [← V_main_arg4 m c]
  blk_simp [iblk, e]
  refine congrArg (V m c main_arg4) ?_
  blk_ext [e]

/-- The three results, as arrays. -/
def yR (Y : Fin 576 → Fin 4096 → EReal) : Vec Ideal S576x4096 .bf16 := fun i => Y (i 0) (i 1)
def codesR (C : Fin 576 → Fin 12288 → BitVec 8) : Vec Ideal S576x12288 .i8 := fun i => C (i 0) (i 1)
def scalesR (s : Fin 576 → EReal) : Vec Ideal S12x48 .f32 := fun i =>
  s ⟨48 * (i 0).val + (i 1).val, by have h0 : (i 0).val < 12 := (i 0).isLt; have h1 : (i 1).val < 48 := (i 1).isLt; omega⟩

theorem out5_eq (c : Dev nD) (t : Fin cfg0.N) :
    out0_5 (iblk m c 0 t) (iblk m c 1 t) (iblk m c 2 t) (iblk m c 3 t) (iblk m c 4 t) = yR (yS (aA m c) (aM m c) (aH m c) (aS m c) (aW m c)) := by
  funext y
  obtain ⟨r, l, rfl⟩ : ∃ (r : Fin 576) (l : Fin 4096), y = ix2 r l := ⟨y 0, y 1, eq_ix2 y⟩
  refine (out5_apply _ _ _ _ _ r l).trans ?_
  simp only [blk0 m c t, blk1 m c t, blk2 m c t, blk3 m c t, blk4 m c t]
  rfl

theorem out6_eq (c : Dev nD) (t : Fin cfg0.N) :
    out0_6 (iblk m c 0 t) (iblk m c 1 t) (iblk m c 2 t) (iblk m c 3 t) (iblk m c 4 t) = codesR (rowC (aA m c) (aM m c)) := by
  funext y
  obtain ⟨r, l, rfl⟩ : ∃ (r : Fin 576) (l : Fin 12288), y = ix2 r l := ⟨y 0, y 1, eq_ix2 y⟩
  refine (out6_apply _ _ _ _ _ r l).trans ?_
  rw [blk0 m c t, blk1 m c t]
  rfl

/-- The output after the run. -/
theorem y_final (c : Dev nD) : (dats m 0 c).arrAt 5 cfg0.N = yR (yS (aA m c) (aM m c) (aH m c) (aS m c) (aW m c)) := by
  refine (dats m 0 c).arrAt_eq_of_covers 5 _ (by decide +kernel) fun t hf y => ?_
  have e := ixs5 t
  rw [after0_5, out5_eq]
  refine congrArg (yR (yS (aA m c) (aM m c) (aH m c) (aS m c) (aW m c))) ?_
  blk_ext [e]

/-- The codes after the run. -/
theorem codes_final (c : Dev nD) : (dats m 0 c).arrAt 6 cfg0.N = codesR (rowC (aA m c) (aM m c)) := by
  refine (dats m 0 c).arrAt_eq_of_covers 6 _ (by decide +kernel) fun t hf y => ?_
  have e := ixs6 t
  rw [after0_6, out6_eq]
  refine congrArg (codesR (rowC (aA m c) (aM m c))) ?_
  blk_ext [e]

/-- The scales the host operations leave. -/
theorem scales_final (c : Dev nD) : (V m c main_v6 : Vec Ideal S12x48 .f32) = scalesR (rowS (aM m c)) := by
  rw [V_v6]
  funext y
  obtain ⟨b, q, rfl⟩ : ∃ (b : Fin 12) (q : Fin 48), y = ix2 b q := ⟨y 0, y 1, eq_ix2 y⟩
  refine Eq.trans ?_ (hostS_apply (m ((c : Thread nD τ).loc main_arg1) : Vec Ideal S576x128 .f32) ⟨48 * b.val + q.val, by omega⟩)
  generalize hostS (m ((c : Thread nD τ).loc main_arg1) : Vec Ideal S576x128 .f32) = p
  pointwise
  refine congrArg p (congrArg ix1 (Fin.ext ?_))
  dsimp only
  omega

variable (ρ : Dev nD → PrngReg)

/-- The run with its three results named, the arguments unchanged. -/
theorem run_values : θ_run defs (onTc (τ := τ) (main (F := Ideal))) ⟨m, fun _ => 0, ρ⟩ fun r => ∀ c : Dev nD,
      r.2.mem ((c : Thread nD τ).loc main_v8_0) = yR (yS (aA m c) (aM m c) (aH m c) (aS m c) (aW m c))
      ∧ r.2.mem ((c : Thread nD τ).loc main_v8_1) = codesR (rowC (aA m c) (aM m c))
      ∧ r.2.mem ((c : Thread nD τ).loc main_v6) = scalesR (rowS (aM m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (y_final m c),
      (post6 m r h c).trans (codes_final m c),
      ((h c).2 main_v6 (Pipeline.mem_restRefs_of main_v6 (by decide) (by decide))).trans (scales_final m c),
      kept_main_arg0 m r h c,
      kept_main_arg1 m r h c,
      kept_main_arg2 m r h c,
      kept_main_arg3 m r h c,
      kept_main_arg4 m r h c⟩)
    (run_main m ρ)

end Cert.RDownIdeal.Hand

end
-- ==== Proof.DownClaim.lean ====
/-
  The down call against its reference: the frames, and the equality of the output, the codes and the scales.
-/
module

public import proofs.«01_k».proof.Defs
public import proofs.«01_k».proof.Proof.DownKFrame
public import proofs.«01_k».proof.Proof.DownFold
public import proofs.«01_k».proof.Proof.DownRef

@[expose] public section

set_option maxRecDepth 16384

noncomputable section

open Idealize.ShloMosaic Idealize.ShloMosaic.TcCoe Idealize.SL.Sem

namespace Cert.KDownIdeal.Hand

open Cert.KDownIdeal Cert.KDownIdeal.Gen Cert.Proof.Down

variable (m : (ℓ : Loc nD τ sig) → Buf (Elt Ideal) ℓ) (ρ : Dev nD → PrngReg)

/-- The run with its three results named, the arguments unchanged. -/
theorem run_values : θ_run defs (onTc (τ := τ) (main (F := Ideal))) ⟨m, fun _ => 0, ρ⟩ fun r => ∀ c : Dev nD,
      r.2.mem ((c : Thread nD τ).loc main_v0_0) = Cert.RDownIdeal.Hand.yR (yS (aA m c) (aM m c) (aH m c) (aS m c) (aW m c))
      ∧ r.2.mem ((c : Thread nD τ).loc main_v0_1) = Cert.RDownIdeal.Hand.codesR (rowC (aA m c) (aM m c))
      ∧ r.2.mem ((c : Thread nD τ).loc main_v0_2) = Cert.RDownIdeal.Hand.scalesR (rowS (aM m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (y_final m c),
      ((h c).1 6).trans (codes_final m c),
      ((h c).1 7).trans (scales_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KDownIdeal.Hand

namespace Cert.Proof.Down

theorem frame_k : Cert.quiescent_KDown := fun m ρ _ => Cert.KDown.Gen.frame m ρ
theorem frame_ki : Cert.quiescent_KDownIdeal := fun m ρ _ => Cert.KDownIdeal.Gen.frame m ρ
theorem frame_ri : Cert.quiescent_RDownIdeal := fun m ρ _ => Cert.RDownIdeal.Gen.frame m ρ

theorem algebraic : Cert.algebraic_KDownIdeal_RDownIdeal := by
  intro m ρ m' ρ' _ hagree
  refine ⟨fun c => Cert.RDownIdeal.Hand.yR (yS (Cert.KDownIdeal.Hand.aA m c) (Cert.KDownIdeal.Hand.aM m c) (Cert.KDownIdeal.Hand.aH m c) (Cert.KDownIdeal.Hand.aS m c) (Cert.KDownIdeal.Hand.aW m c)),
    fun c => Cert.RDownIdeal.Hand.codesR (rowC (Cert.KDownIdeal.Hand.aA m c) (Cert.KDownIdeal.Hand.aM m c)),
    fun c => Cert.RDownIdeal.Hand.scalesR (rowS (Cert.KDownIdeal.Hand.aM m c)), Cert.KDownIdeal.Hand.run_values m ρ, ?_⟩
  refine (θ_run Cert.RDownIdeal.defs _ _).mono (fun _ h c => ?_) (Cert.RDownIdeal.Hand.run_values m' ρ')
  obtain ⟨h5, h6, h7, hk⟩ := h c
  obtain ⟨a0, a1, a2, a3, a4⟩ := hagree c
  have e0 : Cert.RDownIdeal.Hand.aA m' c = Cert.KDownIdeal.Hand.aA m c := by
    funext r k; exact congrFun a0 (ix2 r k)
  have e1 : Cert.RDownIdeal.Hand.aM m' c = Cert.KDownIdeal.Hand.aM m c := by
    funext r l; exact congrFun a1 (ix2 r l)
  have e2 : Cert.RDownIdeal.Hand.aH m' c = Cert.KDownIdeal.Hand.aH m c := by
    funext r l; exact congrFun a2 (ix2 r l)
  have e3 : Cert.RDownIdeal.Hand.aS m' c = Cert.KDownIdeal.Hand.aS m c := by
    funext l; exact congrFun a3 (ix2 0 l)
  have e4 : Cert.RDownIdeal.Hand.aW m' c = Cert.KDownIdeal.Hand.aW m c := by
    funext k l; exact congrFun a4 (ix2 k l)
  rw [e0, e1, e2, e3, e4] at h5
  rw [e0, e1] at h6
  rw [e1] at h7
  exact ⟨h5, h6, h7, hk⟩

end Cert.Proof.Down

end
-- ==== Proof.lean ====
/-
  The certificate: every claim, assembled.
-/
module

public import proofs.«01_k».proof.Defs
public import proofs.«01_k».proof.Proof.GuClaim
public import proofs.«01_k».proof.Proof.DownClaim
public import Idealize.ShloMosaic.Adequacy
public import Idealize.ShloMosaic.Init

@[expose] public section

noncomputable section

namespace Cert.Proof

open Idealize.ShloMosaic Idealize.SL.Sem Cert.KGu

theorem claim : Cert.Claim := ⟨Cert.KGu.Gen.facts, Cert.KGuIdeal.Gen.facts, Cert.RGuIdeal.Gen.facts,
  Cert.KDown.Gen.facts, Cert.KDownIdeal.Gen.facts, Cert.RDownIdeal.Gen.facts,
  Gu.frame_k, Gu.frame_ki, Gu.frame_ri, Down.frame_k, Down.frame_ki, Down.frame_ri,
  trivial, Gu.algebraic, trivial, Down.algebraic⟩

end Cert.Proof

end
